-- ==== Defs.lean ====
def Pre_Kernel [hPre_spans_in_range : Cert.Pre_spans_in_range.Facts] (m : (ℓ : Loc Cert.Kernel.nD Cert.Kernel.τ Cert.Kernel.sig) → Buf (Elt Bits) ℓ) : Prop :=
  ∀ c : Dev Cert.Kernel.nD,
    (Cert.Pre_spans_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_spans_in_range : Cert.Pre_spans_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_spans_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_curves_defined [hPre_curves_defined : Cert.Pre_curves_defined.Facts] (m : (ℓ : Loc Cert.KernelIdeal.nD Cert.KernelIdeal.τ Cert.KernelIdeal.sig) → Buf (Elt Ideal) ℓ) : Prop :=
  ∀ c : Dev Cert.KernelIdeal.nD,
    (Cert.Pre_curves_defined.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_curves_defined [hPre_curves_defined : Cert.Pre_curves_defined.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_curves_defined.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_spans_in_range : Cert.Pre_spans_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_spans_in_range : Cert.Pre_spans_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_curves_defined [hKernelIdeal : Cert.KernelIdeal.Facts] [hPre_curves_defined : Cert.Pre_curves_defined.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_curves_defined m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_curves_defined [hReferenceIdeal : Cert.ReferenceIdeal.Facts] [hPre_curves_defined : Cert.Pre_curves_defined.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_curves_defined m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_curves_defined [hKernelIdeal : Cert.KernelIdeal.Facts] [hReferenceIdeal : Cert.ReferenceIdeal.Facts] [hPre_curves_defined : Cert.Pre_curves_defined.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_curves_defined m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_spans_in_range : Cert.Pre_spans_in_range.Facts) (hPre_curves_defined : Cert.Pre_curves_defined.Facts),
    quiescent_Kernel (hKernel := hKernel) (hPre_spans_in_range := hPre_spans_in_range)
    ∧ quiescent_KernelIdeal (hKernelIdeal := hKernelIdeal) (hPre_spans_in_range := hPre_spans_in_range)
    ∧ quiescent_KernelIdeal_pre_curves_defined (hKernelIdeal := hKernelIdeal) (hPre_curves_defined := hPre_curves_defined)
    ∧ quiescent_ReferenceIdeal (hReferenceIdeal := hReferenceIdeal)
    ∧ quiescent_ReferenceIdeal_pre_curves_defined (hReferenceIdeal := hReferenceIdeal) (hPre_curves_defined := hPre_curves_defined)
    ∧ preserves_Kernel_KernelIdeal
    ∧ algebraic_KernelIdeal_ReferenceIdeal_pre_curves_defined (hKernelIdeal := hKernelIdeal) (hReferenceIdeal := hReferenceIdeal) (hPre_curves_defined := hPre_curves_defined)
-- ==== Pre_curves_defined.lean ====
abbrev S1024x64x4 : Shape := ⟨3, ![1024, 64, 4]⟩
abbrev S1024 : Shape := ⟨1, ![1024]⟩
abbrev S1024x4 : Shape := ⟨2, ![1024, 4]⟩
abbrev S1024x1 : Shape := ⟨2, ![1024, 1]⟩
abbrev S_ : Shape := ⟨0, ![]⟩
abbrev S4 : Shape := ⟨1, ![4]⟩
abbrev S1x4 : Shape := ⟨2, ![1, 4]⟩
abbrev S1024x4x1 : Shape := ⟨3, ![1024, 4, 1]⟩
abbrev S1024x1024x4x4 : Shape := ⟨4, ![1024, 1024, 4, 4]⟩
abbrev S1024x1024x4 : Shape := ⟨3, ![1024, 1024, 4]⟩
abbrev S1024x1024x1 : Shape := ⟨3, ![1024, 1024, 1]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S4_S1x4_1 : S4.BroadcastsInDim S1x4 (![1] : Fin 1 → Fin S1x4.rank)
  bcast_S1024x1_S1024x4_0_1 : S1024x1.BroadcastsInDim S1024x4 (![0, 1] : Fin 2 → Fin S1024x4.rank)
  bcast_S1x4_S1024x4_0_1 : S1x4.BroadcastsInDim S1024x4 (![0, 1] : Fin 2 → Fin S1024x4.rank)
  bcast_S_S1024x4 : S_.BroadcastsInDim S1024x4 (![] : Fin 0 → Fin S1024x4.rank)
  bcast_S1024x4_S1024x4x1_0_1 : S1024x4.BroadcastsInDim S1024x4x1 (![0, 1] : Fin 2 → Fin S1024x4x1.rank)
  transposes_S1024x1024x4_S1024x1024x4_1_0_2 : S1024x1024x4.Transposes [1, 0, 2] S1024x1024x4
  slices_S1024x1024x4_S1024x1024x1_0_0_3 : S1024x1024x4.Slices ![0, 0, 3] S1024x1024x1
  bcast_S_S1024 : S_.BroadcastsInDim S1024 (![] : Fin 0 → Fin S1024.rank)
  reducesTo_S1024_S_d0 : S1024.ReducesTo [0] S_
  h_S_ : 0 < S_.numel
  bcast_S_S1024x1024x1 : S_.BroadcastsInDim S1024x1024x1 (![] : Fin 0 → Fin S1024x1024x1.rank)
  reducesTo_S1024x1024x1_S_d0_1_2 : S1024x1024x1.ReducesTo [0, 1, 2] S_
  gather_S1024x64x4_S1024x4x1_S1024x1024x4x4_03_1_n_n_1_2_102414_wf : GatherDims.WF S1024x64x4 S1024x4x1 S1024x1024x4x4 [0, 3] [1] [] [1] [] 2 ![1024, 1, 4]
  dot_S1024x1024x4x4_S1024x4_S1024x1024x4_2_1_03_n_1_0_wf : DotDims.WF S1024x1024x4x4 S1024x4 S1024x1024x4 [2] [1] [0, 3] [] [1] [0]

variable [Facts]

def gather_S1024x64x4_S1024x4x1_S1024x1024x4x4_03_1_n_n_1_2_102414 : GatherDims S1024x64x4 S1024x4x1 S1024x1024x4x4 where
  offsetDims := [0, 3]
  collapsedSliceDims := [1]
  operandBatchingDims := []
  startIndicesBatchingDims := []
  startIndexMap := [1]
  indexVectorDim := 2
  sliceSizes := ![1024, 1, 4]
  wf := gather_S1024x64x4_S1024x4x1_S1024x1024x4x4_03_1_n_n_1_2_102414_wf
def dot_S1024x1024x4x4_S1024x4_S1024x1024x4_2_1_03_n_1_0 : DotDims S1024x1024x4x4 S1024x4 S1024x1024x4 where
  lhsContracting := [2]
  rhsContracting := [1]
  lhsNonContracting := [0, 3]
  rhsNonContracting := []
  lhsBatch := [1]
  rhsBatch := [0]
  wf := dot_S1024x1024x4x4_S1024x4_S1024x1024x4_2_1_03_n_1_0_wf
def fn_part1 {F : FTy → Type} [FloatOps F] (main_arg1 : IVec S1024 32) (main_v17 : FVec F S1024x1024x1 .f32) (main_v19 : IVec S1024 1) : IVec S_ 1 :=
  let main_c_3 : IVec S_ 32 := constantI S_ 32 63#32
  let main_v20 : IVec S1024 32 := broadcastInDim S1024 ![] bcast_S_S1024 main_c_3
  let main_v21 : IVec S1024 1 := cmpi .sle main_arg1 main_v20
  let main_v22 : IVec S1024 1 := andi main_v19 main_v21
  let main_c_4 : IVec S_ 1 := constantI S_ 1 1#1
  let main_v23 : IVec S_ 1 := (fun x v => Host.reduce IntOp.andi x v reducesTo_S1024_S_d0 h_S_) main_v22 main_c_4
  let main_cst : FVec F S_ .f32 := constant S_ .f32 0x00000000#32
  let main_v24 : FVec F S1024x1024x1 .f32 := broadcastInDim S1024x1024x1 ![] bcast_S_S1024x1024x1 main_cst
  let main_v25 : IVec S1024x1024x1 1 := cmpf .une main_v17 main_v24
  let main_c_5 : IVec S_ 1 := constantI S_ 1 1#1
  let main_v26 : IVec S_ 1 := (fun x v => Host.reduce IntOp.andi x v reducesTo_S1024x1024x1_S_d0_1_2 h_S_) main_v25 main_c_5
  let main_v27 : IVec S_ 1 := andi main_v23 main_v26
  main_v27

def fn {F : FTy → Type} [FloatOps F] (main_arg0 : FVec F S1024x64x4 .f32) (main_arg1 : IVec S1024 32) (main_arg2 : FVec F S1024x4 .f32) : IVec S_ 1 :=
  let main_v0 : IVec S1024x1 32 := broadcastInDim S1024x1 ![0] bcast_S1024_S1024x1_0 main_arg1
  let main_c : IVec S_ 32 := constantI S_ 32 3#32
  let main_v1 : IVec S1024x1 32 := broadcastInDim S1024x1 ![] bcast_S_S1024x1 main_c
  let main_v2 : IVec S1024x1 32 := subi main_v0 main_v1
  let main_v3 : IVec S4 32 := iotaInDim S4 32 0
  let main_v4 : IVec S1x4 32 := broadcastInDim S1x4 ![1] bcast_S4_S1x4_1 main_v3
  let main_v5 : IVec S1024x4 32 := broadcastInDim S1024x4 ![0, 1] bcast_S1024x1_S1024x4_0_1 main_v2
  let main_v6 : IVec S1024x4 32 := broadcastInDim S1024x4 ![0, 1] bcast_S1x4_S1024x4_0_1 main_v4
  let main_v7 : IVec S1024x4 32 := addi main_v5 main_v6
  let main_c_0 : IVec S_ 32 := constantI S_ 32 0#32
  let main_v8 : IVec S1024x4 32 := broadcastInDim S1024x4 ![] bcast_S_S1024x4 main_c_0
  let main_v9 : IVec S1024x4 1 := cmpi .slt main_v7 main_v8
  let main_c_1 : IVec S_ 32 := constantI S_ 32 64#32
  let main_v10 : IVec S1024x4 32 := broadcastInDim S1024x4 ![] bcast_S_S1024x4 main_c_1
  let main_v11 : IVec S1024x4 32 := addi main_v7 main_v10
  let main_v12 : IVec S1024x4 32 := select main_v9 main_v11 main_v7
  let main_v13 : IVec S1024x4x1 32 := broadcastInDim S1024x4x1 ![0, 1] bcast_S1024x4_S1024x4x1_0_1 main_v12
  let main_v14 : FVec F S1024x1024x4x4 .f32 := (fun x i => Host.gather gather_S1024x64x4_S1024x4x1_S1024x1024x4x4_03_1_n_n_1_2_102414 x i) main_arg0 main_v13
  let main_v15 : FVec F S1024x1024x4 .f32 := (fun l r => Host.dotGeneral dot_S1024x1024x4x4_S1024x4_S1024x1024x4_2_1_03_n_1_0 none l r) main_v14 main_arg2
  let main_v16 : FVec F S1024x1024x4 .f32 := (transpose S1024x1024x4 [1, 0, 2] · transposes_S1024x1024x4_S1024x1024x4_1_0_2) main_v15
  let main_v17 : FVec F S1024x1024x1 .f32 := (extractStridedSlice S1024x1024x1 ![0, 0, 3] · slices_S1024x1024x4_S1024x1024x1_0_0_3) main_v16
  let main_c_2 : IVec S_ 32 := constantI S_ 32 3#32
  let main_v18 : IVec S1024 32 := broadcastInDim S1024 ![] bcast_S_S1024 main_c_2
  let main_v19 : IVec S1024 1 := cmpi .sge main_arg1 main_v18
  fn_part1 (F := F) main_arg1 main_v17 main_v19
-- ==== Pre_spans_in_range.lean ====
abbrev S1024x64x4 : Shape := ⟨3, ![1024, 64, 4]⟩
abbrev S1024 : Shape := ⟨1, ![1024]⟩
abbrev S1024x4 : Shape := ⟨2, ![1024, 4]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x64x4 .f32) (main_arg1 : IVec S1024 32) (main_arg2 : FVec F S1024x4 .f32) : IVec S_ 1 :=
  let main_c : IVec S_ 32 := constantI S_ 32 3#32
  let main_v0 : IVec S1024 32 := broadcastInDim S1024 ![] bcast_S_S1024 main_c
  let main_v1 : IVec S1024 1 := cmpi .sge main_arg1 main_v0
  let main_c_0 : IVec S_ 32 := constantI S_ 32 63#32
  let main_v2 : IVec S1024 32 := broadcastInDim S1024 ![] bcast_S_S1024 main_c_0
  let main_v3 : IVec S1024 1 := cmpi .sle main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x64x4 : Shape := ⟨3, ![1024, 64, 4]⟩
abbrev S1024 : Shape := ⟨1, ![1024]⟩
abbrev S1024x4 : Shape := ⟨2, ![1024, 4]⟩
abbrev S262144 : Shape := ⟨1, ![262144]⟩
abbrev S4x1024 : Shape := ⟨2, ![4, 1024]⟩
abbrev S1024x3072 : Shape := ⟨2, ![1024, 3072]⟩
abbrev S8192 : Shape := ⟨1, ![8192]⟩
abbrev S3072 : Shape := ⟨1, ![3072]⟩
abbrev S_ : Shape := ⟨0, ![]⟩
abbrev S16 : Shape := ⟨1, ![16]⟩
abbrev S1x16 : Shape := ⟨2, ![1, 16]⟩
abbrev S1x3072 : Shape := ⟨2, ![1, 3072]⟩
abbrev S1024x1024x3 : Shape := ⟨3, ![1024, 1024, 3]⟩

abbrev nBuf : Table → Nat
  | .hbm => 7
  | .local .scVector .vmem => 4
  | _ => 0

abbrev bufTy : (tb : Table) → Fin (nBuf tb) → BufTy
  | .hbm, ⟨0, _⟩ => ⟨S1024x64x4, .f32⟩
  | .hbm, ⟨1, _⟩ => ⟨S1024, .i32⟩
  | .hbm, ⟨2, _⟩ => ⟨S1024x4, .f32⟩
  | .hbm, ⟨3, _⟩ => ⟨S262144, .f32⟩
  | .hbm, ⟨4, _⟩ => ⟨S4x1024, .f32⟩
  | .hbm, ⟨5, _⟩ => ⟨S1024x3072, .f32⟩
  | .hbm, ⟨6, _⟩ => ⟨S1024x1024x3, .f32⟩
  | .local .scVector .vmem, ⟨0, _⟩ => ⟨S8192, .f32⟩
  | .local .scVector .vmem, ⟨1, _⟩ => ⟨S1024, .i32⟩
  | .local .scVector .vmem, ⟨2, _⟩ => ⟨S4x1024, .f32⟩
  | .local .scVector .vmem, ⟨3, _⟩ => ⟨S3072, .f32⟩
  | _, _ => ⟨S1024x64x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c256_i32 : BitVec 32 := 256#32
  let v3 : BitVec 32 := Scalar.muli v2 c256_i32
  ![v3.toNat]
@[reducible] def k0_t1_loop : Scf.Loop 32 :=
  let c0_i32_0 : BitVec 32 := 0#32
  let c32_i32_1 : BitVec 32 := 32#32
  let v5 : BitVec 32 := Scalar.addi c0_i32_0 c32_i32_1
  let c1_i32 : BitVec 32 := 1#32
  ⟨c0_i32_0, v5, c1_i32⟩
@[reducible] def k0_t2_loop : Scf.Loop 32 :=
  let c0_i32_5 : BitVec 32 := 0#32
  let c64_i32 : BitVec 32 := 64#32
  let v7 : BitVec 32 := Scalar.addi c0_i32_5 c64_i32
  let c1_i32_6 : BitVec 32 := 1#32
  ⟨c0_i32_5, v7, c1_i32_6⟩
def k0_off2 (k0_t2 : Fin k0_t2_loop.trips) : Fin 1 → Nat :=
  let c0_i32_5 : BitVec 32 := 0#32
  let c1_i32_6 : BitVec 32 := 1#32
  let arg11 : BitVec 32 := Scf.iv c0_i32_5 c1_i32_6 k0_t2
  let c16_i32 : BitVec 32 := 16#32
  let v9 : BitVec 32 := Scalar.muli arg11 c16_i32
  let v10 : Index := Scalar.indexCast v9
  ![v10.toNat]

def k0_chk1 (v23 : IVec S16 32) : Prop :=
  (∀ a x, ((![v23] : Fin 1 → IVec S16 32) a x).toNat < S8192.size a)
theorem k0_idx1_inb : ∀ (v23 : IVec S16 32) (k0_hw1 : k0_chk1 v23), ∀ a x, ((![v23] : Fin 1 → IVec S16 32) a x).toNat < S8192.size a := fun v23 k0_hw1 => k0_hw1
def k0_off3 (k0_t2 : Fin k0_t2_loop.trips) : Fin 2 → Nat :=
  let c0_i32_12 : BitVec 32 := 0#32
  let v26 : Index := Scalar.indexCast c0_i32_12
  let c0_i32_5 : BitVec 32 := 0#32
  let c1_i32_6 : BitVec 32 := 1#32
  let arg11 : BitVec 32 := Scf.iv c0_i32_5 c1_i32_6 k0_t2
  let c16_i32_11 : BitVec 32 := 16#32
  let v25 : BitVec 32 := Scalar.muli arg11 c16_i32_11
  let v27 : Index := Scalar.indexCast v25
  ![0, v27.toNat]

def k0_chk2 (v21 : IVec S16 32) : Prop :=
  (∀ a x, ((![v21] : Fin 1 → IVec S16 32) a x).toNat < S8192.size a)
theorem k0_idx2_inb : ∀ (v21 : IVec S16 32) (k0_hw2 : k0_chk2 v21), ∀ a x, ((![v21] : Fin 1 → IVec S16 32) a x).toNat < S8192.size a := fun v21 k0_hw2 => k0_hw2

def k0_chk3 (v35 : IVec S16 32) : Prop :=
  (∀ a x, ((![v35] : Fin 1 → IVec S16 32) a x).toNat < S8192.size a)
theorem k0_idx3_inb : ∀ (v35 : IVec S16 32) (k0_hw3 : k0_chk3 v35), ∀ a x, ((![v35] : Fin 1 → IVec S16 32) a x).toNat < S8192.size a := fun v35 k0_hw3 => k0_hw3

def k0_chk4 (v40 : IVec S16 32) : Prop :=
  (∀ a x, ((![v40] : Fin 1 → IVec S16 32) a x).toNat < S8192.size a)
theorem k0_idx4_inb : ∀ (v40 : IVec S16 32) (k0_hw4 : k0_chk4 v40), ∀ a x, ((![v40] : Fin 1 → IVec S16 32) a x).toNat < S8192.size a := fun v40 k0_hw4 => k0_hw4

def k0_chk5 (v51 : IVec S16 32) : Prop :=
  (∀ a x, ((![v51] : Fin 1 → IVec S16 32) a x).toNat < S8192.size a)
theorem k0_idx5_inb : ∀ (v51 : IVec S16 32) (k0_hw5 : k0_chk5 v51), ∀ a x, ((![v51] : Fin 1 → IVec S16 32) a x).toNat < S8192.size a := fun v51 k0_hw5 => k0_hw5
def k0_off4 (k0_t2 : Fin k0_t2_loop.trips) : Fin 2 → Nat :=
  let c1_i32_18 : BitVec 32 := 1#32
  let v54 : Index := Scalar.indexCast c1_i32_18
  let c0_i32_5 : BitVec 32 := 0#32
  let c1_i32_6 : BitVec 32 := 1#32
  let arg11 : BitVec 32 := Scf.iv c0_i32_5 c1_i32_6 k0_t2
  let c16_i32_17 : BitVec 32 := 16#32
  let v53 : BitVec 32 := Scalar.muli arg11 c16_i32_17
  let v55 : Index := Scalar.indexCast v53
  ![1, v55.toNat]

def k0_chk6 (v49 : IVec S16 32) : Prop :=
  (∀ a x, ((![v49] : Fin 1 → IVec S16 32) a x).toNat < S8192.size a)
theorem k0_idx6_inb : ∀ (v49 : IVec S16 32) (k0_hw6 : k0_chk6 v49), ∀ a x, ((![v49] : Fin 1 → IVec S16 32) a x).toNat < S8192.size a := fun v49 k0_hw6 => k0_hw6

def k0_chk7 (v63 : IVec S16 32) : Prop :=
  (∀ a x, ((![v63] : Fin 1 → IVec S16 32) a x).toNat < S8192.size a)
theorem k0_idx7_inb : ∀ (v63 : IVec S16 32) (k0_hw7 : k0_chk7 v63), ∀ a x, ((![v63] : Fin 1 → IVec S16 32) a x).toNat < S8192.size a := fun v63 k0_hw7 => k0_hw7

def k0_chk8 (v68 : IVec S16 32) : Prop :=
  (∀ a x, ((![v68] : Fin 1 → IVec S16 32) a x).toNat < S8192.size a)
theorem k0_idx8_inb : ∀ (v68 : IVec S16 32) (k0_hw8 : k0_chk8 v68), ∀ a x, ((![v68] : Fin 1 → IVec S16 32) a x).toNat < S8192.size a := fun v68 k0_hw8 => k0_hw8

def k0_chk9 (v79 : IVec S16 32) : Prop :=
  (∀ a x, ((![v79] : Fin 1 → IVec S16 32) a x).toNat < S8192.size a)
theorem k0_idx9_inb : ∀ (v79 : IVec S16 32) (k0_hw9 : k0_chk9 v79), ∀ a x, ((![v79] : Fin 1 → IVec S16 32) a x).toNat < S8192.size a := fun v79 k0_hw9 => k0_hw9
def k0_off5 (k0_t2 : Fin k0_t2_loop.trips) : Fin 2 → Nat :=
  let c2_i32_24 : BitVec 32 := 2#32
  let v82 : Index := Scalar.indexCast c2_i32_24
  let c0_i32_5 : BitVec 32 := 0#32
  let c1_i32_6 : BitVec 32 := 1#32
  let arg11 : BitVec 32 := Scf.iv c0_i32_5 c1_i32_6 k0_t2
  let c16_i32_23 : BitVec 32 := 16#32
  let v81 : BitVec 32 := Scalar.muli arg11 c16_i32_23
  let v83 : Index := Scalar.indexCast v81
  ![2, v83.toNat]

def k0_chk10 (v77 : IVec S16 32) : Prop :=
  (∀ a x, ((![v77] : Fin 1 → IVec S16 32) a x).toNat < S8192.size a)
theorem k0_idx10_inb : ∀ (v77 : IVec S16 32) (k0_hw10 : k0_chk10 v77), ∀ a x, ((![v77] : Fin 1 → IVec S16 32) a x).toNat < S8192.size a := fun v77 k0_hw10 => k0_hw10

def k0_chk11 (v91 : IVec S16 32) : Prop :=
  (∀ a x, ((![v91] : Fin 1 → IVec S16 32) a x).toNat < S8192.size a)
theorem k0_idx11_inb : ∀ (v91 : IVec S16 32) (k0_hw11 : k0_chk11 v91), ∀ a x, ((![v91] : Fin 1 → IVec S16 32) a x).toNat < S8192.size a := fun v91 k0_hw11 => k0_hw11

def k0_chk12 (v96 : IVec S16 32) : Prop :=
  (∀ a x, ((![v96] : Fin 1 → IVec S16 32) a x).toNat < S8192.size a)
theorem k0_idx12_inb : ∀ (v96 : IVec S16 32) (k0_hw12 : k0_chk12 v96), ∀ a x, ((![v96] : Fin 1 → IVec S16 32) a x).toNat < S8192.size a := fun v96 k0_hw12 => k0_hw12

def k0_chk13 (v107 : IVec S16 32) : Prop :=
  (∀ a x, ((![v107] : Fin 1 → IVec S16 32) a x).toNat < S8192.size a)
theorem k0_idx13_inb : ∀ (v107 : IVec S16 32) (k0_hw13 : k0_chk13 v107), ∀ a x, ((![v107] : Fin 1 → IVec S16 32) a x).toNat < S8192.size a := fun v107 k0_hw13 => k0_hw13
def k0_off6 (k0_t2 : Fin k0_t2_loop.trips) : Fin 2 → Nat :=
  let c3_i32_31 : BitVec 32 := 3#32
  let v110 : Index := Scalar.indexCast c3_i32_31
  let c0_i32_5 : BitVec 32 := 0#32
  let c1_i32_6 : BitVec 32 := 1#32
  let arg11 : BitVec 32 := Scf.iv c0_i32_5 c1_i32_6 k0_t2
  let c16_i32_30 : BitVec 32 := 16#32
  let v109 : BitVec 32 := Scalar.muli arg11 c16_i32_30
  let v111 : Index := Scalar.indexCast v109
  ![3, v111.toNat]

def k0_chk14 (v105 : IVec S16 32) : Prop :=
  (∀ a x, ((![v105] : Fin 1 → IVec S16 32) a x).toNat < S8192.size a)
theorem k0_idx14_inb : ∀ (v105 : IVec S16 32) (k0_hw14 : k0_chk14 v105), ∀ a x, ((![v105] : Fin 1 → IVec S16 32) a x).toNat < S8192.size a := fun v105 k0_hw14 => k0_hw14

def k0_chk15 (v119 : IVec S16 32) : Prop :=
  (∀ a x, ((![v119] : Fin 1 → IVec S16 32) a x).toNat < S8192.size a)
theorem k0_idx15_inb : ∀ (v119 : IVec S16 32) (k0_hw15 : k0_chk15 v119), ∀ a x, ((![v119] : Fin 1 → IVec S16 32) a x).toNat < S8192.size a := fun v119 k0_hw15 => k0_hw15

def k0_chk16 (v124 : IVec S16 32) : Prop :=
  (∀ a x, ((![v124] : Fin 1 → IVec S16 32) a x).toNat < S8192.size a)
theorem k0_idx16_inb : ∀ (v124 : IVec S16 32) (k0_hw16 : k0_chk16 v124), ∀ a x, ((![v124] : Fin 1 → IVec S16 32) a x).toNat < S8192.size a := fun v124 k0_hw16 => k0_hw16

def k0_chk17 (v134 : IVec S16 32) : Prop :=
  (∀ a x, ((![v134] : Fin 1 → IVec S16 32) a x).toNat < S3072.size a)
theorem k0_idx17_inb : ∀ (v134 : IVec S16 32) (k0_hw17 : k0_chk17 v134), ∀ a x, ((![v134] : Fin 1 → IVec S16 32) a x).toNat < S3072.size a := fun v134 k0_hw17 => k0_hw17

def k0_chk18 (v137 : IVec S16 32) : Prop :=
  (∀ a x, ((![v137] : Fin 1 → IVec S16 32) a x).toNat < S3072.size a)
theorem k0_idx18_inb : ∀ (v137 : IVec S16 32) (k0_hw18 : k0_chk18 v137), ∀ a x, ((![v137] : Fin 1 → IVec S16 32) a x).toNat < S3072.size a := fun v137 k0_hw18 => k0_hw18

def k0_chk19 (v140 : IVec S16 32) : Prop :=
  (∀ a x, ((![v140] : Fin 1 → IVec S16 32) a x).toNat < S3072.size a)
theorem k0_idx19_inb : ∀ (v140 : IVec S16 32) (k0_hw19 : k0_chk19 v140), ∀ a x, ((![v140] : Fin 1 → IVec S16 32) a x).toNat < S3072.size a := fun v140 k0_hw19 => k0_hw19
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_0 : BitVec 32 := 0#32
  let c1_i32 : BitVec 32 := 1#32
  let arg10 : BitVec 32 := Scf.iv c0_i32_0 c1_i32 k0_t1
  let v8 : BitVec 32 := Scalar.addi v2 arg10
  let c0_i32_8_r3 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x64x4 : Shape := ⟨3, ![1024, 64, 4]⟩
abbrev S1024 : Shape := ⟨1, ![1024]⟩
abbrev S1024x4 : Shape := ⟨2, ![1024, 4]⟩
abbrev S1024x1 : Shape := ⟨2, ![1024, 1]⟩
abbrev S_ : Shape := ⟨0, ![]⟩
abbrev S4 : Shape := ⟨1, ![4]⟩
abbrev S1x4 : Shape := ⟨2, ![1, 4]⟩
abbrev S1024x4x1 : Shape := ⟨3, ![1024, 4, 1]⟩
abbrev S1024x1024x4x4 : Shape := ⟨4, ![1024, 1024, 4, 4]⟩
abbrev S1024x1024x4x1 : Shape := ⟨4, ![1024, 1024, 4, 1]⟩
abbrev S1024x1024x4x3 : Shape := ⟨4, ![1024, 1024, 4, 3]⟩
abbrev S1024x1024x4 : Shape := ⟨3, ![1024, 1024, 4]⟩
abbrev S1024x1024x3 : Shape := ⟨3, ![1024, 1024, 3]⟩
abbrev S1024x1024x1 : Shape := ⟨3, ![1024, 1024, 1]⟩

abbrev nBuf : Space → Nat
  | .hbm => 32
  | .vmem => 0
  | .smem => 0
  | _ => 0

abbrev bufTy : (tb : Table) → Fin (tcTables nBuf tb) → BufTy
  | .hbm, ⟨0, _⟩ => ⟨S1024x64x4, .f32⟩
  | .hbm, ⟨1, _⟩ => ⟨S1024, .i32⟩
  | .hbm, ⟨2, _⟩ => ⟨S1024x4, .f32⟩
  | .hbm, ⟨3, _⟩ => ⟨S1024x1, .i32⟩
  | .hbm, ⟨4, _⟩ => ⟨S_, .i32⟩
  | .hbm, ⟨5, _⟩ => ⟨S1024x1, .i32⟩
  | .hbm, ⟨6, _⟩ => ⟨S1024x1, .i32⟩
  | .hbm, ⟨7, _⟩ => ⟨S4, .i32⟩
  | .hbm, ⟨8, _⟩ => ⟨S1x4, .i32⟩
  | .hbm, ⟨9, _⟩ => ⟨S1024x4, .i32⟩
  | .hbm, ⟨10, _⟩ => ⟨S1024x4, .i32⟩
  | .hbm, ⟨11, _⟩ => ⟨S1024x4, .i32⟩
  | .hbm, ⟨12, _⟩ => ⟨S_, .i32⟩
  | .hbm, ⟨13, _⟩ => ⟨S1024x4, .i32⟩
  | .hbm, ⟨14, _⟩ => ⟨S1024x4, .i1⟩
  | .hbm, ⟨15, _⟩ => ⟨S_, .i32⟩
  | .hbm, ⟨16, _⟩ => ⟨S1024x4, .i32⟩
  | .hbm, ⟨17, _⟩ => ⟨S1024x4, .i32⟩
  | .hbm, ⟨18, _⟩ => ⟨S1024x4, .i32⟩
  | .hbm, ⟨19, _⟩ => ⟨S1024x4x1, .i32⟩
  | .hbm, ⟨20, _⟩ => ⟨S1024x1024x4x4, .f32⟩
  | .hbm, ⟨21, _⟩ => ⟨S1024x1024x4x1, .f32⟩
  | .hbm, ⟨22, _⟩ => ⟨S1024x1024x4x3, .f32⟩
  | .hbm, ⟨23, _⟩ => ⟨S1024x1024x4x3, .f32⟩
  | .hbm, ⟨24, _⟩ => ⟨S1024x1024x4x3, .f32⟩
  | .hbm, ⟨25, _⟩ => ⟨S1024x1024x4x4, .f32⟩
  | .hbm, ⟨26, _⟩ => ⟨S1024x1024x4, .f32⟩
  | .hbm, ⟨27, _⟩ => ⟨S1024x1024x4, .f32⟩
  | .hbm, ⟨28, _⟩ => ⟨S1024x1024x3, .f32⟩
  | .hbm, ⟨29, _⟩ => ⟨S1024x1024x1, .f32⟩
  | .hbm, ⟨30, _⟩ => ⟨S1024x1024x3, .f32⟩
  | .hbm, ⟨31, _⟩ => ⟨S1024x1024x3, .f32⟩
  | _, _ => ⟨S1024x64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Curve.lean ====
/-
  The vocabulary of the proof, independent of either program: an index of a one- or two-axis array from natural-number
  coordinates, the rational curve point the kernel computes (in the kernel's own order of operations, at any float
  instance), and what an indexed store of distinct places leaves.
-/
module

public import Idealize.ShloMosaic.Lib.ValueIdx

@[expose] public section

noncomputable section

namespace Cert.Proof

open Idealize.ShloMosaic Idealize.ShloMosaic.ValueIdx

variable {F : FTy → Type} [FloatOps F]

/-! ## Indices -/

/-- The index of a one-axis array at coordinate `n` (taken modulo the extent, so that it is total). -/
def at1 (N : ℕ) [NeZero N] (n : ℕ) : (⟨1, ![N]⟩ : Shape).Idx := ix1 (Fin.ofNat N n)
/-- The index of a two-axis array at coordinates `i`, `j` (each modulo its extent). -/
def at2 (N M : ℕ) [NeZero N] [NeZero M] (i j : ℕ) : (⟨2, ![N, M]⟩ : Shape).Idx := ix2 (Fin.ofNat N i) (Fin.ofNat M j)

/-- The coordinate of `at1 N n`, in range. -/
theorem at1_val {N : ℕ} [NeZero N] {n : ℕ} (h : n < N) (a : Fin 1) : ((at1 N n) a).val = n := by
  match a with | 0 => exact Nat.mod_eq_of_lt h
/-- Every one-axis index is `at1` of its coordinate. -/
theorem eq_at1 {N : ℕ} [NeZero N] (x : (⟨1, ![N]⟩ : Shape).Idx) {n : ℕ} (h : (x 0).val = n) : x = at1 N n := by
  funext a
  match a with
  | 0 => exact Fin.ext (h.trans (Nat.mod_eq_of_lt (h ▸ (x 0).isLt)).symm)
/-- Every two-axis index is `at2` of its coordinates. -/
theorem eq_at2 {N M : ℕ} [NeZero N] [NeZero M] (x : (⟨2, ![N, M]⟩ : Shape).Idx) {n m : ℕ} (h : (x 0).val = n)
    (h' : (x 1).val = m) : x = at2 N M n m := by
  funext a
  match a with
  | 0 => exact Fin.ext (h.trans (Nat.mod_eq_of_lt (h ▸ (x 0).isLt)).symm)
  | 1 => exact Fin.ext (h'.trans (Nat.mod_eq_of_lt (h' ▸ (x 1).isLt)).symm)
/-- `at1` at two coordinates in range is one index only if they are one. -/
theorem at1_inj {N : ℕ} [NeZero N] {n m : ℕ} (hn : n < N) (hm : m < N) (h : at1 N n = at1 N m) : n = m := by
  have := congrArg (fun x : (⟨1, ![N]⟩ : Shape).Idx => (x 0).val) h
  simpa [at1_val hn, at1_val hm] using this

/-! ## The rational curve point -/

/-- The weight of control point `j` of a span times its basis value. -/
def wt (P : ℕ → ℕ → F .f32) (N : ℕ → F .f32) (j : ℕ) : F .f32 := FloatOps.mulf (P j 3) (N j)
/-- The four weights summed from zero. -/
def den (P : ℕ → ℕ → F .f32) (N : ℕ → F .f32) : F .f32 :=
  FloatOps.addf (FloatOps.addf (FloatOps.addf (FloatOps.addf (Scalar.ofBits .f32 0x00000000#32) (wt P N 0)) (wt P N 1)) (wt P N 2)) (wt P N 3)
/-- The four weighted coordinates `e` summed from zero. -/
def num (P : ℕ → ℕ → F .f32) (N : ℕ → F .f32) (e : ℕ) : F .f32 :=
  FloatOps.addf (FloatOps.addf (FloatOps.addf (FloatOps.addf (Scalar.ofBits .f32 0x00000000#32)
    (FloatOps.mulf (wt P N 0) (P 0 e))) (FloatOps.mulf (wt P N 1) (P 1 e))) (FloatOps.mulf (wt P N 2) (P 2 e)))
    (FloatOps.mulf (wt P N 3) (P 3 e))
/-- Coordinate `e` of the curve point: the weighted sum times the reciprocal of the weights' sum. -/
def pt (P : ℕ → ℕ → F .f32) (N : ℕ → F .f32) (e : ℕ) : F .f32 :=
  FloatOps.mulf (num P N e) (FloatOps.divf (Scalar.ofBits .f32 0x3F800000#32) (den P N))

/-- The four control points of curve `r`'s span `u` in a flat array of curves of 64 points of 4 coordinates. -/
def ctl {n : ℕ} [NeZero n] (g : (⟨1, ![n]⟩ : Shape).Idx → F .f32) (r u : ℕ) (j e : ℕ) : F .f32 :=
  g (at1 n (256 * r + 4 * (u - 3 + j) + e))
/-- Parameter `l`'s span, -/
def spanOf (us : (⟨1, ![1024]⟩ : Shape).Idx → BitVec 32) (l : ℕ) : ℕ := (us (at1 1024 l)).toNat
/-- and its four basis values, held basis by basis. -/
def basis (nu : (⟨2, ![4, 1024]⟩ : Shape).Idx → F .f32) (l j : ℕ) : F .f32 := nu (at2 4 1024 j l)

/-- Entry `3 l + e` of curve `r`'s row of results: coordinate `e` of the curve at parameter `l`. -/
def curve {n : ℕ} [NeZero n] (g : (⟨1, ![n]⟩ : Shape).Idx → F .f32) (us : (⟨1, ![1024]⟩ : Shape).Idx → BitVec 32)
    (nu : (⟨2, ![4, 1024]⟩ : Shape).Idx → F .f32) (r l e : ℕ) : F .f32 :=
  pt (ctl g r (spanOf us l)) (basis nu l) e

/-- Equal control points and basis values give equal curve points. -/
theorem pt_congr {P P' : ℕ → ℕ → F .f32} {N N' : ℕ → F .f32} {e : ℕ} (he : e < 3) (hP : ∀ j, j < 4 → ∀ e, e < 4 → P j e = P' j e)
    (hN : ∀ j, j < 4 → N j = N' j) : pt P N e = pt P' N' e := by
  unfold pt num den wt
  rw [hP 0 (by omega) 3 (by omega), hP 1 (by omega) 3 (by omega), hP 2 (by omega) 3 (by omega), hP 3 (by omega) 3 (by omega),
    hP 0 (by omega) e (by omega), hP 1 (by omega) e (by omega), hP 2 (by omega) e (by omega), hP 3 (by omega) e (by omega),
    hN 0 (by omega), hN 1 (by omega), hN 2 (by omega), hN 3 (by omega)]

/-- Every parameter's span is one of the spans 3 to 63. -/
def SpansIn (us : (⟨1, ![1024]⟩ : Shape).Idx → BitVec 32) : Prop := ∀ x, 3 ≤ (us x).toNat ∧ (us x).toNat ≤ 63

/-- A block of 32 curves cut out of the flat array gives the array's own curves. -/
theorem curve_block {us : (⟨1, ![1024]⟩ : Shape).Idx → BitVec 32} (hu : SpansIn us) {nu : (⟨2, ![4, 1024]⟩ : Shape).Idx → F .f32}
    {g : (⟨1, ![8192]⟩ : Shape).Idx → F .f32} {c : (⟨1, ![262144]⟩ : Shape).Idx → F .f32} {k : ℕ}
    (hg : ∀ n, n < 8192 → g (at1 8192 n) = c (at1 262144 (8192 * k + n))) {r l e : ℕ} (hr : r < 32) (he : e < 3) :
    curve g us nu r l e = curve c us nu (32 * k + r) l e := by
  have := hu (at1 1024 l)
  refine pt_congr he (fun j hj e he => ?_) fun _ _ => rfl
  unfold ctl spanOf
  rw [hg _ (by omega)]
  congr 2; omega

/-! ## The indexed store -/

section Store

variable {s : Shape} {e : EltTy} {d : Fin 1 → ℕ}

omit [FloatOps F] in
/-- Setting the distinct places `I k`, `k` over a list, to `v k`: each place of the list holds its value, every other
    place what it held. -/
theorem foldl_set {n : ℕ} (I : Fin n → s.Idx) (hI : Function.Injective I) (v : Fin n → Elt F e) :
    ∀ (L : List (Fin n)) (_ : L.Nodup) (f : Vec F s e),
      (∀ k ∈ L, L.foldl (fun (g : Vec F s e) k => fun j => if (∀ a, (j a).val = (I k a).val) then v k else g j) f (I k) = v k)
      ∧ ∀ j, (∀ k ∈ L, j ≠ I k) → L.foldl (fun (g : Vec F s e) k => fun j => if (∀ a, (j a).val = (I k a).val) then v k else g j) f j = f j := by
  intro L
  induction L with
  | nil => exact fun _ f => ⟨fun k hk => absurd hk List.not_mem_nil, fun _ _ => rfl⟩
  | cons a L ih =>
    intro hL f
    obtain ⟨haL, hL⟩ := List.nodup_cons.mp hL
    have hne : ∀ {j j' : s.Idx}, j ≠ j' → ¬∀ a, (j a).val = (j' a).val := fun h h' => h (funext fun a => Fin.ext (h' a))
    rw [List.foldl_cons]
    obtain ⟨ih1, ih2⟩ := ih hL (fun j => if (∀ b, (j b).val = (I a b).val) then v a else f j)
    refine ⟨fun k hk => ?_, fun j hj => ?_⟩
    · rcases List.mem_cons.mp hk with rfl | hk
      · rw [ih2 (I k) fun k' hk' h => haL (by rwa [hI h])]; exact if_pos fun _ => rfl
      · exact ih1 k hk
    · rw [ih2 j fun k hk => hj k (List.mem_cons_of_mem _ hk)]
      exact if_neg (hne (hj a List.mem_cons_self))

/-- An unmasked indexed store at distinct places: each lane's place holds the lane's value, every other place what it
    held. -/
theorem storeIdx_spec (f : Vec F s e) (idxs : Fin s.rank → IVec ⟨1, d⟩ 32) (v : Vec F ⟨1, d⟩ e)
    (h : ∀ a x, (idxs a x).toNat < s.size a) (hI : ∀ k k' : Fin (d 0), idxAt idxs h (Shape.ofLane k) = idxAt idxs h (Shape.ofLane k') → k = k') :
    (∀ k : Fin (d 0), storeIdx f idxs v (fun _ => 1#1) false h (idxAt idxs h (Shape.ofLane k)) = v (Shape.ofLane k))
      ∧ ∀ j, (∀ k : Fin (d 0), j ≠ idxAt idxs h (Shape.ofLane k)) → storeIdx f idxs v (fun _ => 1#1) false h j = f j := by
  have key := foldl_set (F := F) (e := e) (fun k : Fin (d 0) => idxAt idxs h (Shape.ofLane k)) (fun k k' e => hI k k' e)
    (fun k => v (Shape.ofLane k)) (List.finRange (d 0)) (List.nodup_finRange _) f
  exact ⟨fun k => key.1 k (List.mem_finRange k), fun j hj => key.2 j fun k _ => hj k⟩

end Store

end Cert.Proof

end
-- ==== Proof.IdealTile.lean ====
/-
  One vector subcore's run of the kernel, with the values in the loops' invariants (the idealized program; the printed
  program's copy is the same text over its own names). A tile holds its 32 curves' control points, every span, and every basis
  value in its own memory; a trip of the inner loop computes the curve points of one curve at sixteen parameters and
  scatters their three coordinates into the row it is filling; a trip of the outer loop fills a row and copies it out.
-/
module

public import proofs.«01_k».proof.Defs
public import proofs.«01_k».proof.Proof.Curve
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import Idealize.ShloMosaic.Lib.WordArith.Masks
public import proofs.«01_k».proof.Proof.Gen.KernelIdeal
public import proofs.«01_k».proof.Proof.Gen.KernelIdeal.Skeleton

@[expose] public section

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on sixteen tiles of each SparseCore. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The handshakes' rounds library, the left factor; the transfers' counters are the right. -/
abbrev EH : Emb UH (MT nD τ sig (HIx 1) (Elt F) ℕ UU ℕ) := embL

variable [FloatOps F]

-- the kernel's memrefs, spelt as the body table passes them
abbrev cH : Memref Cert.KernelIdeal.sig Kind.scVector Space.hbm Cert.KernelIdeal.S262144 EltTy.f32 := Memref.whole Cert.KernelIdeal.main_v0_scv
abbrev uH : Memref Cert.KernelIdeal.sig Kind.scVector Space.hbm Cert.KernelIdeal.S1024 EltTy.i32 := Memref.whole Cert.KernelIdeal.main_arg1_scv
abbrev nH : Memref Cert.KernelIdeal.sig Kind.scVector Space.hbm Cert.KernelIdeal.S4x1024 EltTy.f32 := Memref.whole Cert.KernelIdeal.main_v1_scv
abbrev oH : Memref Cert.KernelIdeal.sig Kind.scVector Space.hbm Cert.KernelIdeal.S1024x3072 EltTy.f32 := Memref.whole Cert.KernelIdeal.main_v2_scv
abbrev cV : Memref Cert.KernelIdeal.sig Kind.scVector Space.vmem Cert.KernelIdeal.S8192 EltTy.f32 := Memref.whole Cert.KernelIdeal.cc0_scratch0
abbrev uV : Memref Cert.KernelIdeal.sig Kind.scVector Space.vmem Cert.KernelIdeal.S1024 EltTy.i32 := Memref.whole Cert.KernelIdeal.cc0_scratch1
abbrev nV : Memref Cert.KernelIdeal.sig Kind.scVector Space.vmem Cert.KernelIdeal.S4x1024 EltTy.f32 := Memref.whole Cert.KernelIdeal.cc0_scratch2
abbrev oV : Memref Cert.KernelIdeal.sig Kind.scVector Space.vmem Cert.KernelIdeal.S3072 EltTy.f32 := Memref.whole Cert.KernelIdeal.cc0_scratch3

/-- The SparseCore of a grid point, -/
abbrev coreOf (L : grid0.Coords) : Fin τ.nSC := (L 0).castLE hcore0
/-- and its tile there. -/
abbrev subOf (L : grid0.Coords) : Fin τ.nSub := (L 1).castLE hsub0
/-- The subcore's thread. -/
abbrev vt (d : Dev nD) (L : grid0.Coords) : Thread nD τ := V d (coreOf L) (subOf L)

/-! ## The addresses a trip computes, as naturals -/

/-- The word of control point `j` of a curve's span, in the flat block of curves. -/
theorem ctl_word {b u k : BitVec 32} {r j : ℕ} (hb : b.toNat = 256 * r) (hr : r < 32) (hu : 3 ≤ u.toNat ∧ u.toNat ≤ 63) (hj : j < 4)
    (hk : k.toNat = (2 ^ 32 - 3 + j) % 2 ^ 32) : (b + (u + k) * 4#32).toNat = 256 * r + 4 * (u.toNat - 3 + j) := by
  simp only [BitVec.toNat_add, BitVec.toNat_mul, BitVec.toNat_ofNat, hb, hk]
  omega

/-- A word a few elements on from one in range. -/
theorem word_add {w k : BitVec 32} {n e : ℕ} (hw : w.toNat = n) (hn : n < 2 ^ 20) (hk : k.toNat = e) (he : e < 2 ^ 20) : (w + k).toNat = n + e := by
  rw [BitVec.toNat_add, hw, hk]; omega

/-- The word of lane `x`'s place in a row of points of three coordinates, at trip `t` of sixteen points a trip. -/
theorem row_word {t x : ℕ} (ht : t < 64) (hx : x < 16) :
    (Scf.iv 0#32 1#32 t * 48#32 + BitVec.ofNat 32 x * 3#32).toNat = 48 * t + 3 * x := by
  simp only [BitVec.toNat_add, BitVec.toNat_mul, BitVec.toNat_ofNat, WordArith.toNat_iv_zero_one t (by omega)]
  omega

/-- The lane's own number, as the kernel's `iota` gives it. -/
theorem lane_word (x : S16.Idx) : iota .scVector S16 32 [0] iota_S16_d0_w32_scVector x = BitVec.ofNat 32 (x 0).val := by
  simp [iota]

/-- The outer loop's trips are the tile's 32 curves, -/
theorem t1_lt (t : Fin k0_t1_loop.trips) : t.val < 32 := lt_of_lt_of_le t.isLt k0_t1_abs.2.1
/-- and the inner loop's the 64 groups of sixteen parameters. -/
theorem t2_lt (t : Fin k0_t2_loop.trips) : t.val < 64 := lt_of_lt_of_le t.isLt k0_t2_abs.2.1

/-! ## The tile's four buffers, and the steps of a trip over them -/

section Trip

variable (d : Dev nD) (L : grid0.Coords)
variable (g : S8192.Idx → F .f32) (us : S1024.Idx → BitVec 32) (nu : S4x1024.Idx → F .f32)

/-- The tile's memory: control points, spans and basis values at their contents, the row being filled at `f`. -/
def held4 (f : S3072.Idx → F .f32) : sProp 𝕄 :=
  iprop(((vt d L).loc cc0_scratch0 ↦{fullShare} g) ∗ ((vt d L).loc cc0_scratch1 ↦{fullShare} us)
    ∗ ((vt d L).loc cc0_scratch2 ↦{fullShare} nu) ∗ ((vt d L).loc cc0_scratch3 ↦{fullShare} f))

/-- The tile's programs. -/
abbrev TProg (F : FTy → Type) (L : grid0.Coords) (α : Type) : Type _ :=
  Prog (TpuEff nD τ sig (Elt F) Λ₀ (.scVector (coreOf L) (subOf L))) α

/-- What the tile's program is proved to run to. -/
abbrev runs {α : Type} (p : TProg F L α) (Q : α → sProp 𝕄) : sProp 𝕄 :=
  wp frame (wpE (defs₀ (F := F)) 𝒱₀ (vt d L) none) Set.univ p Q

variable {α : Type} {f : S3072.Idx → F .f32} {Φ : α → sProp (MT nD τ sig (HIx 1) (Elt F) ℕ UU ℕ)}

/-- A side condition that holds is passed. -/
theorem step_assume {P : Prop} {dP : Decidable P} {k : PLift P → TProg F L α} (h : P)
    (hk : held4 d L g us nu f ⊢ runs d L (k ⟨h⟩) Φ) : held4 d L g us nu f ⊢ runs d L (.op (.assume P dP) k) Φ := by
  unfold runs at hk ⊢
  rw [wp_assume_of _ _ _ _ h]; exact hk

/-- An indexed load of the control points: lane `x` gets the element its word names. -/
theorem step_gather {w : IVec S16 32} {h : ∀ a x, ((![w] : Fin 1 → IVec S16 32) a x).toNat < S8192.size a} {hl}
    {k : Vec F S16 .f32 → TProg F L α}
    (hk : ∀ v : Vec F S16 .f32, (∀ x, v x = g (at1 8192 (w x).toNat)) → held4 d L g us nu f ⊢ runs d L (k v) Φ) :
    held4 d L g us nu f ⊢ runs d L (SparseCore.vectorLoadIdx cV ![w] h hl >>= k) Φ := by
  unfold held4 at hk ⊢
  iintro ⟨Hc, Hu, Hn, Ho⟩
  have hld := SparseCore.wp_vectorLoadIdx (defs := defs₀ (F := F)) 𝒱₀ (vt d L) none Set.univ (base := cV) (idxs := ![w]) (h := h) (hl := hl)
    (k := k) (S := Finset.univ) (q := fullShare) (f := g) (Q := Φ) (Finset.subset_univ _)
  erw [Memref.read_access_whole] at hld
  iapply hld $$ Hc
  iintro Hc
  iapply (hk (loadIdx g ![w] h) fun x => ?_)
  · exact congrArg g (eq_at1 (idxAt ![w] h x) rfl)
  isplitl [Hc]; · iexact Hc
  isplitl [Hu]; · iexact Hu
  isplitl [Hn]; · iexact Hn
  iexact Ho

/-- A load of sixteen spans at `o`. -/
theorem step_spans {off : Fin 1 → ℕ} {inb : ∀ a, off a + S16.size a ≤ S1024.size a} {hl} (o : ℕ) (ho : off = ![o])
    {k : Vec F S16 .i32 → TProg F L α}
    (hk : ∀ v : Vec F S16 .i32, (∀ x : S16.Idx, v x = us (at1 1024 (o + (x 0).val))) → held4 d L g us nu f ⊢ runs d L (k v) Φ) :
    held4 d L g us nu f ⊢ runs d L (.op (.load uV (Rect.unit (s := S1024) off S16.size inb).toLoadRect hl) k) Φ := by
  unfold held4 at hk ⊢
  iintro ⟨Hc, Hu, Hn, Ho⟩
  iapply (wp_load 𝒱₀ (vt d L) none Set.univ (m := uV) (S := Finset.univ) (q := fullShare) (f := us) (Finset.subset_univ _)) $$ Hu
  iintro Hu
  iapply (hk _ fun x => ?_)
  · show us _ = _
    refine congrArg us (eq_at1 _ ?_)
    subst ho
    show ![o] 0 + 1 * (x 0).val = _
    simp
  isplitl [Hc]; · iexact Hc
  isplitl [Hu]; · iexact Hu
  isplitl [Hn]; · iexact Hn
  iexact Ho

/-- A load of sixteen values of basis function `j` at `o`. -/
theorem step_basis {off : Fin 2 → ℕ} {inb : ∀ a, off a + S1x16.size a ≤ S4x1024.size a} {hl} (j o : ℕ) (ho : off = ![j, o])
    {k : Vec F S1x16 .f32 → TProg F L α}
    (hk : ∀ v : Vec F S1x16 .f32, (∀ x : S16.Idx, shapeCast S16 v shapeCasts_S1x16_S16 x = nu (at2 4 1024 j (o + (x 0).val))) → held4 d L g us nu f ⊢ runs d L (k v) Φ) :
    held4 d L g us nu f ⊢ runs d L (.op (.load nV (Rect.unit (s := S4x1024) off S1x16.size inb).toLoadRect hl) k) Φ := by
  unfold held4 at hk ⊢
  iintro ⟨Hc, Hu, Hn, Ho⟩
  iapply (wp_load 𝒱₀ (vt d L) none Set.univ (m := nV) (S := Finset.univ) (q := fullShare) (f := nu) (Finset.subset_univ _)) $$ Hn
  iintro Hn
  iapply (hk _ fun x => ?_)
  · rw [shapeCast_apply _ shapeCasts_S1x16_S16 x (ix2 (0 : Fin 1) (show Fin 16 from x 0)) (by
      rw [Shape.rowMajor_val_two, Shape.rowMajor_val_one]; simp)]
    show nu _ = _
    subst ho
    refine congrArg nu (eq_at2 _ ?_ ?_)
    · show ![j, o] 0 + 1 * 0 = _; simp
    · show ![j, o] 1 + 1 * (x 0).val = _; simp
  isplitl [Hc]; · iexact Hc
  isplitl [Hu]; · iexact Hu
  isplitl [Hn]; · iexact Hn
  iexact Ho

/-- An indexed store of sixteen values at distinct places of the row. -/
theorem step_scatter {w : IVec S16 32} {val : Vec F S16 .f32} {h : ∀ a x, ((![w] : Fin 1 → IVec S16 32) a x).toNat < S3072.size a} {hs}
    (hw : ∀ x y : S16.Idx, (w x).toNat = (w y).toNat → x = y)
    {k : PUnit → TProg F L α}
    (hk : ∀ f' : S3072.Idx → F .f32, (∀ x, f' (at1 3072 (w x).toNat) = val x) →
      (∀ n, n < 3072 → (∀ x, n ≠ (w x).toNat) → f' (at1 3072 n) = f (at1 3072 n)) → held4 d L g us nu f' ⊢ runs d L (k ⟨⟩) Φ) :
    held4 d L g us nu f ⊢ runs d L (SparseCore.vectorStoreIdx oV ![w] val (fun _ => 1#1) false h hs >>= k) Φ := by
  have hpl : ∀ x, idxAt ![w] h x = at1 3072 (w x).toNat := fun x => eq_at1 _ rfl
  have hlt : ∀ x, (w x).toNat < 3072 := fun x => h 0 x
  have hln : ∀ x : S16.Idx, Shape.ofLane (x 0) = x := fun x => funext fun a => by match a with | 0 => rfl
  have key := storeIdx_spec (F := F) f ![w] val h fun k k' e => by
    rw [hpl, hpl] at e
    have := hw _ _ (at1_inj (hlt _) (hlt _) e)
    exact congrArg (fun x : S16.Idx => x 0) this
  have hk' := hk (storeIdx f ![w] val (fun _ => 1#1) false h)
    (fun x => by have := key.1 (x 0); rwa [hln, hpl] at this)
    (fun n hn hne => key.2 _ fun k e => hne _ (at1_inj hn (hlt _) (e.trans (hpl _))))
  unfold held4 at hk' ⊢
  iintro ⟨Hc, Hu, Hn, Ho⟩
  have hst := SparseCore.wp_vectorStoreIdx (defs := defs₀ (F := F)) 𝒱₀ (vt d L) none Set.univ (base := oV) (idxs := ![w]) (v := val)
    (mask := fun _ => 1#1) (add := false) (h := h) (hs := hs) (k := k) (f := f) (Q := Φ)
  erw [Memref.set_access_whole, Memref.read_access_whole, Memref.write_access_whole_univ] at hst
  iapply hst $$ Ho
  iintro Ho
  iapply hk'
  isplitl [Hc]; · iexact Hc
  isplitl [Hu]; · iexact Hu
  isplitl [Hn]; · iexact Hn
  iexact Ho

/-! ## A trip of the inner loop -/

/-- The row being filled holds the curve's points at parameters below `n`. -/
def RowTo (g : S8192.Idx → F .f32) (us : S1024.Idx → BitVec 32) (nu : S4x1024.Idx → F .f32) (r n : ℕ) (f : S3072.Idx → F .f32) : Prop :=
  ∀ l, l < n → ∀ e, e < 3 → f (at1 3072 (3 * l + e)) = curve g us nu r l e

/-- Three scatters of sixteen points' coordinates carry the row sixteen parameters on. -/
theorem RowTo.step {r t : ℕ} {f f₁ f₂ f₃ : S3072.Idx → F .f32} (ht : t < 64) (h : RowTo g us nu r (16 * t) f) {w₀ w₁ w₂ : IVec S16 32}
    (hw₀ : ∀ x : S16.Idx, (w₀ x).toNat = 48 * t + 3 * (x 0).val) (hw₁ : ∀ x : S16.Idx, (w₁ x).toNat = 48 * t + 3 * (x 0).val + 1)
    (hw₂ : ∀ x : S16.Idx, (w₂ x).toNat = 48 * t + 3 * (x 0).val + 2)
    (h₁ : ∀ x : S16.Idx, f₁ (at1 3072 (w₀ x).toNat) = curve g us nu r (16 * t + (x 0).val) 0)
    (h₁' : ∀ n, n < 3072 → (∀ x, n ≠ (w₀ x).toNat) → f₁ (at1 3072 n) = f (at1 3072 n))
    (h₂ : ∀ x : S16.Idx, f₂ (at1 3072 (w₁ x).toNat) = curve g us nu r (16 * t + (x 0).val) 1)
    (h₂' : ∀ n, n < 3072 → (∀ x, n ≠ (w₁ x).toNat) → f₂ (at1 3072 n) = f₁ (at1 3072 n))
    (h₃ : ∀ x : S16.Idx, f₃ (at1 3072 (w₂ x).toNat) = curve g us nu r (16 * t + (x 0).val) 2)
    (h₃' : ∀ n, n < 3072 → (∀ x, n ≠ (w₂ x).toNat) → f₃ (at1 3072 n) = f₂ (at1 3072 n)) :
    RowTo g us nu r (16 * (t + 1)) f₃ := by
  intro l hl e he
  simp only [hw₀] at h₁ h₁'
  simp only [hw₁] at h₂ h₂'
  simp only [hw₂] at h₃ h₃'
  by_cases hlt : l < 16 * t
  · rw [h₃' _ (by omega) fun x => by omega, h₂' _ (by omega) fun x => by omega, h₁' _ (by omega) fun x => by omega]
    exact h l hlt e he
  · obtain ⟨x, rfl⟩ : ∃ x : Fin 16, l = 16 * t + x.val := ⟨⟨l - 16 * t, by omega⟩, by show l = 16 * t + (l - 16 * t); omega⟩
    have e0 : ((ix1 x : S16.Idx) 0).val = x.val := rfl
    have hx := x.isLt
    match e, he with
    | 0, _ =>
      rw [h₃' _ (by omega) fun y => by omega, h₂' _ (by omega) fun y => by omega]
      have := h₁ (ix1 x); rw [e0] at this
      rw [← this]; congr 2; omega
    | 1, _ =>
      rw [h₃' _ (by omega) fun y => by omega]
      have := h₂ (ix1 x); rw [e0] at this
      rw [← this]; congr 2; omega
    | 2, _ =>
      have := h₃ (ix1 x); rw [e0] at this
      rw [← this]; congr 2; omega

/-- `w`'s lanes are the words of coordinate `e` of their spans' control point `j`, for curve `r`'s parameters from `o`. -/
def CtlWord (us : S1024.Idx → BitVec 32) (r o : ℕ) (w : IVec S16 32) (j e : ℕ) : Prop :=
  ∀ x : S16.Idx, (w x).toNat = 256 * r + 4 * (spanOf us (o + (x 0).val) - 3 + j) + e

section Words
variable {us}

omit [FloatOps F] in
/-- The first coordinate's word. -/
theorem CtlWord.base (hu : SpansIn us) {b : BitVec 32} {r o : ℕ} {v : IVec S16 32} (hv : ∀ x : S16.Idx, v x = us (at1 1024 (o + (x 0).val)))
    (hb : b.toNat = 256 * r) (hr : r < 32) {j : ℕ} (hj : j < 4) (k : BitVec 32) (hk : k.toNat = (2 ^ 32 - 3 + j) % 2 ^ 32) :
    CtlWord us r o (addi (broadcast S16 b) (muli (addi v (broadcast S16 k)) (broadcast S16 4#32))) j 0 := fun x => by
  show (b + (v x + k) * 4#32).toNat = _
  rw [hv]
  exact ctl_word hb hr (hu _) hj hk

/-- The word of a later coordinate of the same control point. -/
theorem CtlWord.add (hu : SpansIn us) {r o : ℕ} (hr : r < 32) {w : IVec S16 32} {j : ℕ} (hj : j < 4) (h : CtlWord us r o w j 0) (e : ℕ) (he : e < 4)
    (k : BitVec 32) (hk : k.toNat = e) : CtlWord us r o (addi w (broadcast S16 k)) j e := fun x => by
  have h1 : 3 ≤ spanOf us (o + (x 0).val) ∧ spanOf us (o + (x 0).val) ≤ 63 := hu _
  exact word_add (h x) (by omega) hk (by omega)

/-- Such words name elements of the tile's block. -/
theorem CtlWord.ok (hu : SpansIn us) {r o : ℕ} (hr : r < 32) {w : IVec S16 32} {j e : ℕ} (hj : j < 4) (he : e < 4) (h : CtlWord us r o w j e) :
    ∀ a x, ((![w] : Fin 1 → IVec S16 32) a x).toNat < S8192.size a := fun a x => by
  have h1 : 3 ≤ spanOf us (o + (x 0).val) ∧ spanOf us (o + (x 0).val) ≤ 63 := hu _
  match a with
  | 0 => show (w x).toNat < 8192; rw [h x]; omega

/-- A row's words name elements of the row. -/
theorem row_ok {t : ℕ} (ht : t < 64) {w : IVec S16 32} {e : ℕ} (he : e < 3) (h : ∀ x : S16.Idx, (w x).toNat = 48 * t + 3 * (x 0).val + e) :
    ∀ a x, ((![w] : Fin 1 → IVec S16 32) a x).toNat < S3072.size a := fun a x => by
  have hx : (x 0).val < 16 := (x 0).isLt
  match a with
  | 0 => show (w x).toNat < 3072; rw [h x]; omega

/-- A row's words name distinct elements. -/
theorem row_inj {t : ℕ} {w : IVec S16 32} {e : ℕ} (h : ∀ x : S16.Idx, (w x).toNat = 48 * t + 3 * (x 0).val + e) :
    ∀ x y : S16.Idx, (w x).toNat = (w y).toNat → x = y := fun x y hxy => by
  rw [h, h] at hxy
  funext a
  match a with
  | 0 => exact Fin.ext (by omega)

end Words

/-- An indexed load at such words: the control points' coordinates. -/
theorem step_ctl {r o j e : ℕ} {w : IVec S16 32} {h : ∀ a x, ((![w] : Fin 1 → IVec S16 32) a x).toNat < S8192.size a} {hl}
    (hw : CtlWord us r o w j e) {k : Vec F S16 .f32 → TProg F L α}
    (hk : ∀ v : Vec F S16 .f32, (∀ x : S16.Idx, v x = ctl g r (spanOf us (o + (x 0).val)) j e) → held4 d L g us nu f ⊢ runs d L (k v) Φ) :
    held4 d L g us nu f ⊢ runs d L (SparseCore.vectorLoadIdx cV ![w] h hl >>= k) Φ :=
  step_gather d L g us nu fun v hv => hk v fun x => by rw [hv, hw]; rfl

set_option maxHeartbeats 4000000 in
/-- **A trip of the inner loop**: sixteen more of the row's points. -/
theorem inner_trip (hu : SpansIn us) {r : ℕ} (hr : r < 32) {b : BitVec 32} (hb : b.toNat = 256 * r) (t : Fin k0_t2_loop.trips)
    (hf : RowTo g us nu r (16 * t.val) f) :
    held4 d L g us nu f ⊢ runs d L (k0_t2_body L cH (Memref.isWhole_whole _) uH (Memref.isWhole_whole _) nH (Memref.isWhole_whole _) oH (Memref.isWhole_whole _)
      cV (Memref.isWhole_whole _) uV (Memref.isWhole_whole _) nV (Memref.isWhole_whole _) oV (Memref.isWhole_whole _) cc0_scoped0 cc0_scoped1 cc0_scoped2 cc0_scoped3 b t ())
      fun _ => iprop(∃ f', held4 d L g us nu f' ∗ ⌜RowTo g us nu r (16 * (t.val + 1)) f'⌝) := by
  have ht := t2_lt t
  unfold k0_t2_body
  simp only [k0_part1_eq_skeleton, k0_part2_eq_skeleton, k0_part3_eq_skeleton]
  unfold k0_part1_skel k0_part2_skel k0_part3_skel
  simp only [Prog.lift, Prog.bind_op, Prog.bind_ret, Prog.pure_eq_ret, bind_assoc, pure_bind]
  have hlt : ∀ x : S16.Idx, (x 0).val < 16 := fun x => (x 0).isLt
  refine step_spans d L g us nu (16 * t.val) (k0_off2_eq t) fun u hv => ?_
  have w00 : CtlWord us r (16 * t.val) (k0_pay7 b u) 0 0 := CtlWord.base hu hv hb hr (by omega) 4294967293#32 rfl
  have w01 : CtlWord us r (16 * t.val) (k0_pay12 (k0_pay7 b u)) 0 1 := w00.add hu hr (by omega) 1 (by omega) 1#32 rfl
  have w02 : CtlWord us r (16 * t.val) (k0_pay14 (k0_pay7 b u)) 0 2 := w00.add hu hr (by omega) 2 (by omega) 2#32 rfl
  have w03 : CtlWord us r (16 * t.val) (k0_pay8 (k0_pay7 b u)) 0 3 := w00.add hu hr (by omega) 3 (by omega) 3#32 rfl
  have w10 : CtlWord us r (16 * t.val) (addi (k0_pay17 b) (k0_pay16 u)) 1 0 := CtlWord.base hu hv hb hr (by omega) 4294967294#32 rfl
  have w11 : CtlWord us r (16 * t.val) (k0_pay20 (addi (k0_pay17 b) (k0_pay16 u))) 1 1 := w10.add hu hr (by omega) 1 (by omega) 1#32 rfl
  have w12 : CtlWord us r (16 * t.val) (k0_pay22 (addi (k0_pay17 b) (k0_pay16 u))) 1 2 := w10.add hu hr (by omega) 2 (by omega) 2#32 rfl
  have w13 : CtlWord us r (16 * t.val) (k0_pay18 (addi (k0_pay17 b) (k0_pay16 u))) 1 3 := w10.add hu hr (by omega) 3 (by omega) 3#32 rfl
  have w20 : CtlWord us r (16 * t.val) (k0_pay24 b u) 2 0 := CtlWord.base hu hv hb hr (by omega) 4294967295#32 rfl
  have w21 : CtlWord us r (16 * t.val) (k0_pay29 (k0_pay24 b u) 1#32) 2 1 := w20.add hu hr (by omega) 1 (by omega) 1#32 rfl
  have w22 : CtlWord us r (16 * t.val) (k0_pay30 (k0_pay24 b u)) 2 2 := w20.add hu hr (by omega) 2 (by omega) 2#32 rfl
  have w23 : CtlWord us r (16 * t.val) (k0_pay25 (k0_pay24 b u)) 2 3 := w20.add hu hr (by omega) 3 (by omega) 3#32 rfl
  have w30 : CtlWord us r (16 * t.val) (k0_pay31 b u) 3 0 := CtlWord.base hu hv hb hr (by omega) 0#32 rfl
  have w31 : CtlWord us r (16 * t.val) (k0_pay35 (k0_pay31 b u)) 3 1 := w30.add hu hr (by omega) 1 (by omega) 1#32 rfl
  have w32 : CtlWord us r (16 * t.val) (k0_pay37 (k0_pay31 b u)) 3 2 := w30.add hu hr (by omega) 2 (by omega) 2#32 rfl
  have w33 : CtlWord us r (16 * t.val) (k0_pay32 (k0_pay31 b u)) 3 3 := w30.add hu hr (by omega) 3 (by omega) 3#32 rfl
  refine step_assume d L g us nu (w00.ok hu hr (by omega) (by omega)) ?_
  refine step_assume d L g us nu (w03.ok hu hr (by omega) (by omega)) ?_
  refine step_ctl d L g us nu w03 fun p03 h03 => ?_
  refine step_basis d L g us nu 0 (16 * t.val) (k0_off3_eq t) fun n0 b0 => ?_
  refine step_ctl d L g us nu w00 fun p00 h00 => ?_
  refine step_assume d L g us nu (w01.ok hu hr (by omega) (by omega)) ?_
  refine step_ctl d L g us nu w01 fun p01 h01 => ?_
  refine step_assume d L g us nu (w02.ok hu hr (by omega) (by omega)) ?_
  refine step_ctl d L g us nu w02 fun p02 h02 => ?_
  refine step_assume d L g us nu (w10.ok hu hr (by omega) (by omega)) ?_
  refine step_assume d L g us nu (w13.ok hu hr (by omega) (by omega)) ?_
  refine step_ctl d L g us nu w13 fun p13 h13 => ?_
  refine step_basis d L g us nu 1 (16 * t.val) (k0_off4_eq t) fun n1 b1 => ?_
  refine step_ctl d L g us nu w10 fun p10 h10 => ?_
  refine step_assume d L g us nu (w11.ok hu hr (by omega) (by omega)) ?_
  refine step_ctl d L g us nu w11 fun p11 h11 => ?_
  refine step_assume d L g us nu (w12.ok hu hr (by omega) (by omega)) ?_
  refine step_ctl d L g us nu w12 fun p12 h12 => ?_
  refine step_assume d L g us nu (w20.ok hu hr (by omega) (by omega)) ?_
  refine step_assume d L g us nu (w23.ok hu hr (by omega) (by omega)) ?_
  refine step_ctl d L g us nu w23 fun p23 h23 => ?_
  refine step_basis d L g us nu 2 (16 * t.val) (k0_off5_eq t) fun n2 b2 => ?_
  refine step_ctl d L g us nu w20 fun p20 h20 => ?_
  refine step_assume d L g us nu (w21.ok hu hr (by omega) (by omega)) ?_
  refine step_ctl d L g us nu w21 fun p21 h21 => ?_
  refine step_assume d L g us nu (w22.ok hu hr (by omega) (by omega)) ?_
  refine step_ctl d L g us nu w22 fun p22 h22 => ?_
  refine step_assume d L g us nu (w30.ok hu hr (by omega) (by omega)) ?_
  refine step_assume d L g us nu (w33.ok hu hr (by omega) (by omega)) ?_
  refine step_ctl d L g us nu w33 fun p33 h33 => ?_
  refine step_basis d L g us nu 3 (16 * t.val) (k0_off6_eq t) fun n3 b3 => ?_
  refine step_ctl d L g us nu w30 fun p30 h30 => ?_
  refine step_assume d L g us nu (w31.ok hu hr (by omega) (by omega)) ?_
  refine step_ctl d L g us nu w31 fun p31 h31 => ?_
  refine step_assume d L g us nu (w32.ok hu hr (by omega) (by omega)) ?_
  refine step_ctl d L g us nu w32 fun p32 h32 => ?_
  -- the row's words
  have hrow : ∀ x : S16.Idx, (k0_pay1 (Scalar.muli (Scf.iv 0#32 1#32 t.val) 48#32) k0_pay40 x).toNat = 48 * t.val + 3 * (x 0).val + 0 := fun x => by
    show (Scf.iv 0#32 1#32 t.val * 48#32 + iota .scVector S16 32 [0] iota_S16_d0_w32_scVector x * 3#32).toNat = _
    rw [lane_word]; exact row_word ht (hlt x)
  have hrow1 : ∀ x : S16.Idx, (k0_pay3 (k0_pay1 (Scalar.muli (Scf.iv 0#32 1#32 t.val) 48#32) k0_pay40) x).toNat = 48 * t.val + 3 * (x 0).val + 1 := fun x =>
    word_add (hrow x) (by have := hlt x; omega) rfl (by omega)
  have hrow2 : ∀ x : S16.Idx, (k0_pay5 (k0_pay1 (Scalar.muli (Scf.iv 0#32 1#32 t.val) 48#32) k0_pay40) x).toNat = 48 * t.val + 3 * (x 0).val + 2 := fun x =>
    word_add (hrow x) (by have := hlt x; omega) rfl (by omega)
  refine step_assume d L g us nu (row_ok ht (by omega) hrow) ?_
  refine step_scatter d L g us nu (row_inj hrow) fun f1 s1 s1' => ?_
  refine step_assume d L g us nu (row_ok ht (by omega) hrow1) ?_
  refine step_scatter d L g us nu (row_inj hrow1) fun f2 s2 s2' => ?_
  refine step_assume d L g us nu (row_ok ht (by omega) hrow2) ?_
  refine step_scatter d L g us nu (row_inj hrow2) fun f3 s3 s3' => ?_
  -- the values
  have hden : ∀ x : S16.Idx, k0_pay39 (k0_pay27 (k0_pay10 p03 n0) p13 n1 p23 n2) p33 n3 x
      = FloatOps.divf (Scalar.ofBits .f32 0x3F800000#32) (den (ctl g r (spanOf us (16 * t.val + (x 0).val))) (basis nu (16 * t.val + (x 0).val))) := fun x => by
    unfold den wt basis
    rw [← h03 x, ← h13 x, ← h23 x, ← h33 x, ← b0 x, ← b1 x, ← b2 x, ← b3 x]
    rfl
  have hv0 : ∀ x : S16.Idx, f1 (at1 3072 (k0_pay1 (Scalar.muli (Scf.iv 0#32 1#32 t.val) 48#32) k0_pay40 x).toNat) = curve g us nu r (16 * t.val + (x 0).val) 0 := fun x => by
    rw [s1 x]
    unfold curve pt
    rw [← hden x]
    unfold num wt basis
    rw [← h03 x, ← h13 x, ← h23 x, ← h33 x, ← b0 x, ← b1 x, ← b2 x, ← b3 x, ← h00 x, ← h10 x, ← h20 x, ← h30 x]
    rfl
  have hv1 : ∀ x : S16.Idx, f2 (at1 3072 (k0_pay3 (k0_pay1 (Scalar.muli (Scf.iv 0#32 1#32 t.val) 48#32) k0_pay40) x).toNat) = curve g us nu r (16 * t.val + (x 0).val) 1 := fun x => by
    rw [s2 x]
    unfold curve pt
    rw [← hden x]
    unfold num wt basis
    rw [← h03 x, ← h13 x, ← h23 x, ← h33 x, ← b0 x, ← b1 x, ← b2 x, ← b3 x, ← h01 x, ← h11 x, ← h21 x, ← h31 x]
    rfl
  have hv2 : ∀ x : S16.Idx, f3 (at1 3072 (k0_pay5 (k0_pay1 (Scalar.muli (Scf.iv 0#32 1#32 t.val) 48#32) k0_pay40) x).toNat) = curve g us nu r (16 * t.val + (x 0).val) 2 := fun x => by
    rw [s3 x]
    unfold curve pt
    rw [← hden x]
    unfold num wt basis
    rw [← h03 x, ← h13 x, ← h23 x, ← h33 x, ← b0 x, ← b1 x, ← b2 x, ← b3 x, ← h02 x, ← h12 x, ← h22 x, ← h32 x]
    rfl
  have hrow3 := RowTo.step g us nu ht hf hrow hrow1 hrow2 hv0 s1' hv1 s2' hv2 s3'
  unfold runs
  rw [wp_ret]
  iintro H
  imodintro
  iexists f3
  isplitl
  · iexact H
  ipureintro
  exact hrow3

end Trip

end Cert.Proof.IdealTile

end
-- ==== Proof.IdealRun.lean ====
/-
  One vector subcore's whole run (the idealized program; the printed program's copy is the same text over its own
  names): the three fetches, the loop over its 32 curves — the inner loop of Proof/IdealTile.lean, then the row copied out —
  with the rows already written in the loop's invariant.
-/
module

public import proofs.«01_k».proof.Proof.IdealTile

@[expose] public section

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable [FloatOps F]

/-- The device's flat control points, -/
abbrev cLoc (d : Dev nD) : Loc nD τ sig := (SparseCore.T d).loc main_v0
/-- its spans, -/
abbrev uLoc (d : Dev nD) : Loc nD τ sig := (SparseCore.T d).loc main_arg1
/-- its transposed basis values, -/
abbrev nLoc (d : Dev nD) : Loc nD τ sig := (SparseCore.T d).loc main_v1
/-- and its rows of results. -/
abbrev oLoc (d : Dev nD) : Loc nD τ sig := (SparseCore.T d).loc main_v2

/-! ## The rows of the result -/

/-- The first of the 32 rows subcore `L` fills, -/
abbrev rowBase (L : grid0.Coords) : ℕ := 64 * (L 1).val + 32 * (L 0).val
/-- and all of them: block `2 (L 1) + L 0` of the 32 blocks of 32 rows. -/
def blk (k : ℕ) : Finset S1024x3072.Idx := Finset.univ.filter fun j => (j 0).val / 32 = k
/-- The rows of the tile at a grid point. -/
abbrev blkOf (L : grid0.Coords) : Finset S1024x3072.Idx := blk (2 * (L 1).val + (L 0).val)

/-- The array of results: row by row a curve's points, three coordinates each. -/
def outArr (c : S262144.Idx → F .f32) (us : S1024.Idx → BitVec 32) (nu : S4x1024.Idx → F .f32) : S1024x3072.Idx → F .f32 :=
  fun j => curve c us nu (j 0).val ((j 1).val / 3) ((j 1).val % 3)

/-- The row of trip `t`, as the program addresses it. -/
abbrev rowR (L : grid0.Coords) (t : Fin k0_t1_loop.trips) : Rect S1024x3072 := Rect.unit (s := S1024x3072) (k0_off7 L t) S1x3072.size (k0_off7_inb L t)
/-- That row as a one-axis array. -/
abbrev rowM (L : grid0.Coords) (t : Fin k0_t1_loop.trips) : Memref sig .scVector .hbm S3072 .f32 :=
  ((oH).slice (rowR L t) (fun _ => rfl)).squeeze S3072 squeezes_S1x3072_S3072

omit [FloatOps F] in
/-- The row of trip `t` holds the entries of the tile's row number `t`. -/
theorem mem_rowM (L : grid0.Coords) (t : Fin k0_t1_loop.trips) (j : S1024x3072.Idx) :
    j ∈ (rowM L t).view.set ↔ (j 0).val = rowBase L + t.val := by
  have hs : (rowM L t).view.set = (rowR L t).set := by
    show (((oH).view.slice (rowR L t)).reshape S3072 squeezes_S1x3072_S3072.numel_eq).set = _
    rw [View.set_reshape]
    exact View.set_slice_whole _ _
  rw [hs, Rect.mem_set_unit, k0_off7_eq]
  have h1 : (j 1).val < 3072 := (j 1).isLt
  constructor
  · intro h
    have := h 0
    simp at this
    unfold rowBase
    omega
  · intro h a
    unfold rowBase at h
    match a with
    | 0 => show 64 * (L 1).val + 32 * (L 0).val + t.val ≤ (j 0).val ∧ (j 0).val < 64 * (L 1).val + 32 * (L 0).val + t.val + 1; omega
    | 1 => show 0 ≤ (j 1).val ∧ (j 1).val < 0 + 3072; omega

omit [FloatOps F] in
/-- Element `n` of the row the program addresses is column `n` of that row. -/
theorem emb_rowM (L : grid0.Coords) (t : Fin k0_t1_loop.trips) {n : ℕ} (hn : n < 3072) (a : Fin 2) :
    ((rowM L t).view.emb (at1 3072 n) a).val = (![rowBase L + t.val, n] : Fin 2 → ℕ) a := by
  have e : Shape.reshapeEquiv squeezes_S1x3072_S3072.numel_eq (at1 3072 n) = (ix2 (0 : Fin 1) (⟨n, hn⟩ : Fin 3072) : S1x3072.Idx) :=
    Shape.reshapeEquiv_eq_of_rowMajor _ (by
      rw [Shape.rowMajor_val_two, Shape.rowMajor_val_one, at1_val hn]; simp)
  show (((rowR L t).emb (Shape.reshapeEquiv squeezes_S1x3072_S3072.numel_eq (at1 3072 n))) a).val = _
  rw [e]
  show k0_off7 L t a + 1 * ((ix2 (0 : Fin 1) (⟨n, hn⟩ : Fin 3072) : S1x3072.Idx) a).val = _
  rw [k0_off7_eq]
  match a with
  | 0 => simp
  | 1 => simp

section Trip

variable (d : Dev nD) (L : grid0.Coords)
variable (g : S8192.Idx → F .f32) (us : S1024.Idx → BitVec 32) (nu : S4x1024.Idx → F .f32)

/-- **The inner loop**: the row filled with curve `r`'s points at all 1024 parameters. -/
theorem inner_loop (hu : SpansIn us) {r : ℕ} (hr : r < 32) {b : BitVec 32} (hb : b.toNat = 256 * r) (f : S3072.Idx → F .f32) :
    held4 d L g us nu f ⊢ runs d L (Scf.Loop.for k0_t2_loop k0_t2_ok ⟨⟩
        (k0_t2_body L cH (Memref.isWhole_whole _) uH (Memref.isWhole_whole _) nH (Memref.isWhole_whole _) oH (Memref.isWhole_whole _)
          cV (Memref.isWhole_whole _) uV (Memref.isWhole_whole _) nV (Memref.isWhole_whole _) oV (Memref.isWhole_whole _)
          cc0_scoped0 cc0_scoped1 cc0_scoped2 cc0_scoped3 b))
      fun _ => iprop(∃ f', held4 d L g us nu f' ∗ ⌜RowTo g us nu r 1024 f'⌝) := by
  refine BI.Entails.trans ?_ (Scf.wp_for frame (wpE (defs₀ (F := F)) 𝒱₀ (vt d L) none) Set.univ _ _ _ k0_t2_ok _ _
    (fun k _ => iprop(∃ f', held4 d L g us nu f' ∗ ⌜RowTo g us nu r (16 * k) f'⌝)) ?_)
  · show held4 d L g us nu f ⊢ _
    iintro H
    isplitl [H]
    · iexists f
      isplitl; · iexact H
      ipureintro
      intro l hl; omega
    · iintro %_ H
      rw [show 16 * Scf.trips k0_t2_loop.lb k0_t2_loop.ub k0_t2_loop.st = 1024 from by decide +kernel]
      iexact H
  · intro k _
    iintro ⟨%f', H, %hf⟩
    iapply (inner_trip d L g us nu hu hr hb k hf) $$ H

/-! ## The outer loop -/

omit [FloatOps F] in
/-- The row buffer held through the kernel's name for it is the buffer held, -/
theorem pts_oV (f : Buf (Elt F) ((vt d L).loc cc0_scratch3)) :
    ((oV).view.loc (vt d L) ↦{fullShare} f : sProp 𝕄) = (vt d L).loc cc0_scratch3 ↦{fullShare} f := rfl
omit [FloatOps F] in
/-- and so a part of a row of the result. -/
theorem pts_rowM (t : Fin k0_t1_loop.trips) (I : Finset S1024x3072.Idx) (f : Buf (Elt F) (oLoc d)) :
    ((rowM L t).view.loc (vt d L) ↦[I]{fullShare} f : sProp 𝕄) = oLoc d ↦[I]{fullShare} f := rfl

/-- The tile's rows of the result are written below its row `n`. -/
def RowsTo (c : S262144.Idx → F .f32) (n : ℕ) (fo : S1024x3072.Idx → F .f32) : Prop :=
  ∀ j ∈ blkOf L, (j 0).val < rowBase L + n → fo j = outArr c us nu j

variable {us}
variable {c : S262144.Idx → F .f32}

/-- A row copied out: one row more is written. -/
theorem RowsTo.step (hu : SpansIn us) (hg : ∀ n, n < 8192 → g (at1 8192 n) = c (at1 262144 (8192 * (2 * (L 1).val + (L 0).val) + n)))
    (t : Fin k0_t1_loop.trips) {f : S3072.Idx → F .f32} (hf : RowTo g us nu t.val 1024 f) {fo : S1024x3072.Idx → F .f32}
    (ho : RowsTo L (us := us) nu c t.val fo) :
    RowsTo L (us := us) nu c (t.val + 1) ((rowM L t).view.write (Elt F) fo f Finset.univ) := by
  intro j hj hlt
  have ht := t1_lt t
  by_cases h : (j 0).val = rowBase L + t.val
  · have hn : (j 1).val < 3072 := (j 1).isLt
    have e : (rowM L t).view.emb (at1 3072 (j 1).val) = j := by
      funext a
      apply Fin.ext
      rw [emb_rowM L t hn a]
      match a with
      | 0 => exact h.symm
      | 1 => rfl
    have hw := View.write_emb_of_mem (v := (rowM L t).view) (Val := Elt F) fo f (M := Finset.univ) (x := at1 3072 (j 1).val) (Finset.mem_univ _)
    rw [e] at hw
    rw [hw]
    show f (at1 3072 (j 1).val) = _
    have h3 := hf ((j 1).val / 3) (by omega) ((j 1).val % 3) (by omega)
    rw [show 3 * ((j 1).val / 3) + (j 1).val % 3 = (j 1).val from by omega] at h3
    rw [h3]
    unfold outArr
    rw [curve_block hu hg ht (by omega), h]
    congr 1
    unfold rowBase; omega
  · rw [View.write_of_not_mem]
    · exact ho j hj (by omega)
    · rw [View.setOn_univ, mem_rowM]; exact h

variable (us) in
/-- The outer loop's invariant before trip `k`: the tile's memory, its rows of the result written below row `k`, its
    semaphore at zero, and what it owes. -/
def inv (c : S262144.Idx → F .f32) (O : CellTallies nD τ sig (HIx 1)) (W : Waits sig (HIx 1)) (k : ℕ) (_ : PUnit) : sProp 𝕄 :=
  iprop(Transfers.MayWaits (vt d L) (default : HIx 1) O
    ∗ (∃ f, held4 d L g us nu f)
    ∗ (∃ fo, (oLoc d ↦[blkOf L]{fullShare} fo) ∗ ⌜RowsTo L (us := us) nu c k fo⌝)
    ∗ semVal (vt d L, SemLoc.dma cc0_scoped3.sem) 0
    ∗ ∃ W', ⌜∀ p ∈ W', p ∈ W ∨ p.2 = none⌝ ∗ owes (vt d L) O W')

omit [FloatOps F] in
/-- The row of a trip is one of the tile's rows. -/
theorem rowM_sub (t : Fin k0_t1_loop.trips) : (rowM L t).view.set ⊆ blkOf L := by
  intro j hj
  rw [mem_rowM] at hj
  have ht := t1_lt t
  have h0 : (L 0).val < 2 := (L 0).isLt
  refine Finset.mem_filter.mpr ⟨Finset.mem_univ _, ?_⟩
  rw [hj]; unfold rowBase; omega

set_option maxHeartbeats 4000000 in
/-- **A trip of the outer loop**: one row filled and copied out. -/
theorem outer_trip (hu : SpansIn us) (hg : ∀ n, n < 8192 → g (at1 8192 n) = c (at1 262144 (8192 * (2 * (L 1).val + (L 0).val) + n)))
    (O : CellTallies nD τ sig (HIx 1)) (W : Waits sig (HIx 1)) (t : Fin k0_t1_loop.trips) (acc : PUnit) :
    inv d L g us nu c O W t.val acc ⊢ runs d L
        (k0_t1_body L cH (Memref.isWhole_whole _) uH (Memref.isWhole_whole _) nH (Memref.isWhole_whole _) oH (Memref.isWhole_whole _)
          cV (Memref.isWhole_whole _) uV (Memref.isWhole_whole _) nV (Memref.isWhole_whole _) oV (Memref.isWhole_whole _)
          cc0_scoped0 cc0_scoped1 cc0_scoped2 cc0_scoped3 t acc)
      (inv d L g us nu c O W (t.val + 1)) := by
  have ht := t1_lt t
  have hb : (Scalar.muli (Scf.iv 0#32 1#32 t.val) 256#32).toNat = 256 * t.val := by
    show (Scf.iv 0#32 1#32 t.val * 256#32).toNat = _
    simp only [BitVec.toNat_mul, BitVec.toNat_ofNat, WordArith.toNat_iv_zero_one t.val (by omega)]
    omega
  unfold k0_t1_body inv runs
  simp only []
  rw [wp_bind]
  iintro ⟨Hmw, ⟨%f, Hh⟩, ⟨%fo, Ho, %hfo⟩, Hsem, %W', %hW', HO⟩
  ihave Hw := (inner_loop d L g us nu hu ht hb f) $$ Hh
  iapply (wp_wand frame _ _) $$ Hw
  iintro %_ ⟨%f', Hh, %hf⟩
  unfold held4
  icases Hh with ⟨Hc, Hu, Hn, Hr⟩
  ihave Hr' := (Entails.of_eq (pts_oV (F := F) d L _).symm) $$ Hr
  ihave Hos := (pointsTo_split_subset (q := fullShare) (f := fo) (rowM_sub L t)).1 $$ Ho
  icases Hos with ⟨Hrow, Hrest⟩
  ihave Hrow' := (Entails.of_eq (pts_rowM (F := F) d L t _ _).symm) $$ Hrow
  sl_exec (disch := exact View.amount_pos _ _ (show 0 < S3072.numel by decide))
  sl_step
  rw [show (rowM L t).view.writes (Elt F) fo [⟨Rect.whole S3072, outer_trip.sl.dma0 f'⟩] = (rowM L t).view.write (Elt F) fo f' Finset.univ from
    (View.write_univ_eq_writes_whole ..).symm]
  isplitl [Hmw]; · iexact Hmw
  isplitl [Hc Hu Hn Hr']
  · iexists f'
    isplitl [Hc]; · iexact Hc
    isplitl [Hu]; · iexact Hu
    isplitl [Hn]; · iexact Hn
    iapply (Entails.of_eq (pts_oV (F := F) d L _)); iexact Hr'
  isplitl [Hrow' Hrest]
  · iexists ((rowM L t).view.write (Elt F) fo f' Finset.univ)
    isplitl
    · iapply (pointsTo_split_subset (q := fullShare) (f := (rowM L t).view.write (Elt F) fo f' Finset.univ) (rowM_sub L t)).2
      isplitl [Hrow']; · iapply (Entails.of_eq (pts_rowM (F := F) d L t _ _)); iexact Hrow'
      iapply (Entails.of_eq (pointsTo_congr (fun j hj => (View.write_of_not_mem (v := (rowM L t).view) (Val := Elt F) fo f' Finset.univ (i := j) (by
        rw [View.setOn_univ]; exact (Finset.mem_sdiff.mp hj).2)).symm)))
      iexact Hrest
    · ipureintro; exact RowsTo.step L g nu hu hg t hf hfo
  isplitl [Hsem]; · iexact Hsem
  iexists (insert (SemLoc.dma cc0_scoped3.sem, (default : HIx 1)) W'); isplitr
  · ipureintro; intro p hp
    rcases Finset.mem_insert.mp hp with hp | hp
    · exact .inr (hp ▸ rfl)
    · exact hW' p hp
  · iexact HO

end Trip

/-! ## The tile's resources, and its run -/

section Tile

variable (d : Dev nD) (L : grid0.Coords)

abbrev cell0 : GSem nD τ sig := (vt d L, .dma cc0_scoped0.sem)
abbrev cell1 : GSem nD τ sig := (vt d L, .dma cc0_scoped1.sem)
abbrev cell2 : GSem nD τ sig := (vt d L, .dma cc0_scoped2.sem)
abbrev cell3 : GSem nD τ sig := (vt d L, .dma cc0_scoped3.sem)

/-- The subcore's own cells other than the four it waits on. -/
abbrev restCells : Finset (GSem nD τ sig) :=
  ((((ownCells (vt d L)).erase (cell0 d L)).erase (cell1 d L)).erase (cell2 d L)).erase (cell3 d L)

omit [FloatOps F] in
/-- The subcore's counters at zero: the four it waits on, and the rest. -/
theorem ownSems0_V : (ownSems0 (vt d L) : sProp 𝕄)
    = iprop(semVal (cell0 d L) 0 ∗ semVal (cell1 d L) 0 ∗ semVal (cell2 d L) 0 ∗ semVal (cell3 d L) 0
        ∗ bigSep (restCells d L) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide,
      Finset.mem_erase.mpr ⟨by simp [cell0, cell3]; decide,
      (mem_ownCells (g := cell3 d L)).mpr ⟨rfl, by show (SemLoc.dma cc0_scoped3.sem : SemLoc sig).isScoped .scVector = true; decide⟩⟩⟩⟩)]

abbrev ref0 : DevRef τ sig := (Proc.scVector (coreOf L) (subOf L)).devRef cc0_scratch0
abbrev ref1 : DevRef τ sig := (Proc.scVector (coreOf L) (subOf L)).devRef cc0_scratch1
abbrev ref2 : DevRef τ sig := (Proc.scVector (coreOf L) (subOf L)).devRef cc0_scratch2
abbrev ref3 : DevRef τ sig := (Proc.scVector (coreOf L) (subOf L)).devRef cc0_scratch3

/-- The subcore's own buffers other than its four scratch buffers. -/
abbrev restRefs : Finset (DevRef τ sig) :=
  ((((ownRefs (τ := τ) (.scVector (coreOf L) (subOf L))).erase (ref0 L)).erase (ref1 L)).erase (ref2 L)).erase (ref3 L)

omit [FloatOps F] in
/-- The subcore's own buffers: its four scratch buffers, and the rest. -/
theorem ownBufs_V : (ownBufs (vt d L) : sProp 𝕄)
    = iprop((∃ f, (vt d L).loc cc0_scratch0 ↦{fullShare} f) ∗ (∃ f, (vt d L).loc cc0_scratch1 ↦{fullShare} f)
        ∗ (∃ f, (vt d L).loc cc0_scratch2 ↦{fullShare} f) ∗ (∃ f, (vt d L).loc cc0_scratch3 ↦{fullShare} f)
        ∗ bigSep (restRefs L) fun b => iprop(∃ f, ((d, b) : Loc nD τ sig) ↦{fullShare} f)) := by
  unfold SparseCore.Cfg.ownBufs
  have hne : ∀ {b b' : Ref sig .scVector}, b ≠ b' → (Proc.scVector (coreOf L) (subOf L)).devRef b ≠ (Proc.scVector (coreOf L) (subOf L)).devRef b' :=
    fun h e => h (Proc.devRef_injective _ e)
  have hm : ∀ b : Ref sig .scVector, ((Proc.scVector (coreOf L) (subOf L)).devRef b).owner = .proc (Proc.scVector (coreOf L) (subOf L)) →
      (Proc.scVector (coreOf L) (subOf L)).devRef b ∈ ownRefs (τ := τ) (.scVector (coreOf L) (subOf L)) :=
    fun b h => SparseCore.Cfg.mem_ownRefs_of_owner (p := Proc.scVector (coreOf L) (subOf L)) h
  refine (SparseCore.bigSep_erase' (hm cc0_scratch0 rfl)).trans ?_
  rw [SparseCore.bigSep_erase' (Finset.mem_erase.mpr ⟨hne (by decide), hm cc0_scratch1 rfl⟩),
    SparseCore.bigSep_erase' (Finset.mem_erase.mpr ⟨hne (by decide), Finset.mem_erase.mpr ⟨hne (by decide), hm cc0_scratch2 rfl⟩⟩),
    SparseCore.bigSep_erase' (Finset.mem_erase.mpr ⟨hne (by decide), Finset.mem_erase.mpr ⟨hne (by decide), Finset.mem_erase.mpr ⟨hne (by decide), hm cc0_scratch3 rfl⟩⟩⟩)]

/-- The block of the flat control points subcore `L` fetches. -/
abbrev blkR : Rect S262144 := Rect.unit (s := S262144) (k0_off1 L) S8192.size (k0_off1_inb L)
abbrev blkM : Memref sig .scVector .hbm S8192 .f32 := (cH).slice (blkR L) (fun _ => rfl)

omit [FloatOps F] in
/-- Its element `n`. -/
theorem read_blkM (c : S262144.Idx → F .f32) {n : ℕ} (hn : n < 8192) :
    (blkM L).view.read (Elt F) c (at1 8192 n) = c (at1 262144 (8192 * (2 * (L 1).val + (L 0).val) + n)) := by
  rw [View.read_apply, cast_eq]
  refine congrArg c (eq_at1 _ ?_)
  show k0_off1 L 0 + 1 * ((at1 8192 n) 0).val = _
  rw [k0_off1_eq, at1_val hn]
  show 16384 * (L 1).val + 8192 * (L 0).val + 1 * n = _
  ring

variable (c : S262144.Idx → F .f32) (us : S1024.Idx → BitVec 32) (nu : S4x1024.Idx → F .f32) (q : PosShare TreeShare)

/-- What a tile reads: shares of the flat control points, the spans and the basis values. -/
abbrev ins : sProp 𝕄 := iprop((cLoc d ↦{q} c) ∗ (uLoc d ↦{q} us) ∗ (nLoc d ↦{q} nu))

set_option maxHeartbeats 4000000 in
/-- **The tile's run**: from shares of the three inputs and its rows of the result, to the rows written with its curves'
    points. -/
theorem tile_body (hF : (K (F := F)).Facts) (hu : SpansIn us) (O : CellTallies nD τ sig (HIx 1)) (W : Waits sig (HIx 1)) (hO : ∀ g, O g none = 0) :
    iprop(levAts (K (F := F)).L (K (F := F)).lev ∗ emp
        ∗ (ins d c us nu q ∗ ∃ fo, oLoc d ↦[blkOf L]{fullShare} fo)
        ∗ scopedBufs (vt d L) ∗ scopedSems0 (vt d L) ∗ owes (vt d L) O W)
      ⊢ runs d L
          (cc0__sc_body L cH (Memref.isWhole_whole _) uH (Memref.isWhole_whole _) nH (Memref.isWhole_whole _) oH (Memref.isWhole_whole _)
            cV (Memref.isWhole_whole _) uV (Memref.isWhole_whole _) nV (Memref.isWhole_whole _) oV (Memref.isWhole_whole _)
            cc0_scoped0 cc0_scoped1 cc0_scoped2 cc0_scoped3)
          fun _ => iprop((ins d c us nu q ∗ oLoc d ↦[blkOf L]{fullShare} outArr c us nu)
            ∗ scopedBufs (vt d L) ∗ scopedSems0 (vt d L)
            ∗ ∃ W', ⌜∀ p ∈ W', p ∈ W ∨ p.2 = none⌝ ∗ owes (vt d L) O W') := by
  unfold runs ins
  simp only [cc0__sc_body_eq_skeleton]; unfold cc0__sc_body_skel
  rw [(K (F := F)).scopedBufs_V hF d (coreOf L) (subOf L), SparseCore.Cfg.scopedSems0_V (Val := Elt F) d (coreOf L) (subOf L), ownSems0_V, ownBufs_V]
  iintro ⟨#Hlv, -, ⟨⟨Hc, Hu, Hn⟩, %fo, Ho⟩, ⟨⟨%f0, H0⟩, ⟨%f1, H1⟩, ⟨%f2, H2⟩, ⟨%f3, H3⟩, Hbufs⟩, ⟨Hs0, Hs1, Hs2, Hs3, Hsems⟩, HO⟩
  ihave Hmw := (show levAts (K (F := F)).L (K (F := F)).lev ⊢ Transfers.MayWaits (vt d L) (default : HIx 1) O from
    (K (F := F)).mayWaits_none (thr := vt d L) hO) $$ Hlv
  ihave Hc' := (Entails.of_eq (show (cLoc d ↦{q} c : sProp 𝕄) = (cH).view.loc (vt d L) ↦{q} c from rfl)) $$ Hc
  ihave Hu' := (Entails.of_eq (show (uLoc d ↦{q} us : sProp 𝕄) = (uH).view.loc (vt d L) ↦{q} us from rfl)) $$ Hu
  ihave Hn' := (Entails.of_eq (show (nLoc d ↦{q} nu : sProp 𝕄) = (nH).view.loc (vt d L) ↦{q} nu from rfl)) $$ Hn
  ihave H0' := (Entails.of_eq (show ((vt d L).loc cc0_scratch0 ↦{fullShare} f0 : sProp 𝕄) = (cV).view.loc (vt d L) ↦{fullShare} f0 from rfl)) $$ H0
  ihave H1' := (Entails.of_eq (show ((vt d L).loc cc0_scratch1 ↦{fullShare} f1 : sProp 𝕄) = (uV).view.loc (vt d L) ↦{fullShare} f1 from rfl)) $$ H1
  ihave H2' := (Entails.of_eq (show ((vt d L).loc cc0_scratch2 ↦{fullShare} f2 : sProp 𝕄) = (nV).view.loc (vt d L) ↦{fullShare} f2 from rfl)) $$ H2
  sl_exec
  have hg : ∀ n, n < 8192 → (blkM L).view.read (Elt F) c (at1 8192 n) = c (at1 262144 (8192 * (2 * (L 1).val + (L 0).val) + n)) :=
    fun n hn => read_blkM L c hn
  sl_for (inv d L ((blkM L).view.read (Elt F) c) us nu c O W) $$ [Hmw H0' H1' H2' H3 Ho Hs3 HO]
  case region =>
    intro k acc
    exact outer_trip d L _ nu hu hg O W k acc
  · unfold inv
    isplitl [Hmw]; · iexact Hmw
    isplitl [H0' H1' H2' H3]
    · iexists f3
      unfold held4
      isplitl [H0']; · iapply (Entails.of_eq (congrArg (fun w => ((vt d L).loc cc0_scratch0 ↦{fullShare} w : sProp 𝕄)) (View.write_whole_univ (Val := Elt F) cc0_scratch0 f0 _))); iexact H0'
      isplitl [H1']; · iapply (Entails.of_eq (congrArg (fun w => ((vt d L).loc cc0_scratch1 ↦{fullShare} w : sProp 𝕄)) (View.write_whole_univ (Val := Elt F) cc0_scratch1 f1 _))); iexact H1'
      isplitl [H2']; · iapply (Entails.of_eq (congrArg (fun w => ((vt d L).loc cc0_scratch2 ↦{fullShare} w : sProp 𝕄)) (View.write_whole_univ (Val := Elt F) cc0_scratch2 f2 _))); iexact H2'
      iexact H3
    isplitl [Ho]
    · iexists fo
      isplitl; · iexact Ho
      ipureintro
      intro j hj hlt
      have := (Finset.mem_filter.mp hj).2
      unfold rowBase at hlt
      omega
    isplitl [Hs3]; · iexact Hs3
    iexists _; isplitr; swap
    · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  iintro %_ HI
  unfold inv held4
  icases HI with ⟨-, ⟨%f', H0, H1, H2, H3⟩, ⟨%fo', Ho, %hfo⟩, Hs3, %W', %hW', HO⟩
  sl_exec
  sl_step
  isplitl [Hc' Hu' Hn' Ho]
  · isplitl [Hc' Hu' Hn']
    · isplitl [Hc']; · iexact Hc'
      isplitl [Hu']; · iexact Hu'
      iexact Hn'
    have e : ∀ j ∈ blkOf L, fo' j = outArr c us nu j := fun j hj => hfo j hj (by
      have h := (Finset.mem_filter.mp hj).2
      rw [show Scf.trips k0_t1_loop.lb k0_t1_loop.ub k0_t1_loop.st = 32 from by decide +kernel]
      unfold rowBase; omega)
    iapply (Entails.of_eq (pointsTo_congr e)); iexact Ho
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Tile

end Cert.Proof.IdealTile

end
-- ==== Proof.IdealLaunch.lean ====
/-
  The launch (the idealized program; the printed program's copy is the same text over its own names): the kernel's call
  deals every subcore a share of the three inputs and its rows of the result, the host's lines before it lay the inputs
  out and the line after it gives the result its shape. Post: the result holds every curve's points, the arguments are
  unchanged, every semaphore is back at zero.
-/
module

public import proofs.«01_k».proof.Proof.IdealRun
public import Idealize.ShloMosaic.Lib.ShareLeaves

@[expose] public section

noncomputable section

namespace Cert.Proof.IdealTile

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

omit [FloatOps F] in
/-- The launch's handshake cells are as the launch theorem asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host's arrays -/

/-- The device's control points, -/
abbrev a0Loc (d : Dev nD) : Loc nD τ sig := (SparseCore.T d).loc main_arg0
/-- its basis values, -/
abbrev a2Loc (d : Dev nD) : Loc nD τ sig := (SparseCore.T d).loc main_arg2
/-- and its result. -/
abbrev rLoc (d : Dev nD) : Loc nD τ sig := (SparseCore.T d).loc main_v3

/-- The control points, flat. -/
def flat (d : Dev nD) : S262144.Idx → F .f32 := shapeCast S262144 (m (a0Loc d) : S1024x64x4.Idx → F .f32) shapeCasts_S1024x64x4_S262144
/-- The basis values, basis by basis. -/
def nut (d : Dev nD) : S4x1024.Idx → F .f32 := transpose S4x1024 [1, 0] (m (a2Loc d) : S1024x4.Idx → F .f32) transposes_S1024x4_S4x1024_1_0
/-- The spans. -/
def spans (d : Dev nD) : S1024.Idx → BitVec 32 := m (uLoc d)
/-- The kernel's result, row by row, -/
def rows (d : Dev nD) : S1024x3072.Idx → F .f32 := outArr (flat m d) (spans m d) (nut m d)
/-- and as @main returns it. -/
def res (d : Dev nD) : S1024x1024x3.Idx → F .f32 := shapeCast S1024x1024x3 (rows m d) shapeCasts_S1024x3072_S1024x1024x3

/-! ## The result's blocks -/

/-- Tile `i` of core `c` owns the 32 rows of block `2 i + c`. -/
abbrev tileSet (c : Fin 2) (i : Fin 16) : Finset S1024x3072.Idx := blk (2 * i.val + c.val)
/-- A core's rows: its tiles'. -/
def coreSet (c : Fin 2) : Finset S1024x3072.Idx := Finset.univ.biUnion (tileSet c)

/-- A core's rows are those whose block number has the core's parity. -/
theorem mem_coreSet {c : Fin 2} {j : S1024x3072.Idx} : j ∈ coreSet c ↔ (j 0).val / 32 % 2 = c.val := by
  unfold coreSet
  have hj : (j 0).val < 1024 := (j 0).isLt
  rw [Finset.mem_biUnion]
  constructor
  · rintro ⟨i, -, hi⟩
    have := (Finset.mem_filter.mp hi).2
    omega
  · intro h
    exact ⟨⟨(j 0).val / 32 / 2, by omega⟩, Finset.mem_univ _, Finset.mem_filter.mpr ⟨Finset.mem_univ _, by show (j 0).val / 32 = 2 * ((j 0).val / 32 / 2) + c.val; omega⟩⟩

/-- Two tiles of a core own no row in common, -/
theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun x hx hy => h (Fin.ext ?_)
  have h1 := (Finset.mem_filter.mp hx).2
  have h2 := (Finset.mem_filter.mp hy).2
  omega
/-- nor do the two cores, -/
theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun x hx hy => h (Fin.ext ?_)
  rw [mem_coreSet] at hx hy
  omega
/-- and the two cores own every row. -/
theorem cores_cover : (Finset.univ : Finset (Fin 2)).biUnion coreSet = Finset.univ := by
  refine Finset.eq_univ_of_forall fun j => Finset.mem_biUnion.mpr ⟨⟨(j 0).val / 32 % 2, by omega⟩, Finset.mem_univ _, ?_⟩
  rw [mem_coreSet]

omit [FloatOps F] in
/-- A core's rows are its tiles'. -/
theorem core_tiles (d : Dev nD) (c : Fin 2) (f : Buf (Elt F) (oLoc d)) :
    (oLoc d ↦[coreSet c]{fullShare} f : sProp 𝕄) = bigSep Finset.univ fun i : Fin 16 => oLoc d ↦[tileSet c i]{fullShare} f := by
  rw [← pointsTo_biUnion Finset.univ (ℓ := oLoc d) (tileSet c) (tiles_disjoint c)]; rfl
omit [FloatOps F] in
/-- The result is the two cores' rows. -/
theorem all_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet cores_disjoint, cores_cover]; try rfl

omit [FloatOps F] in
/-- The inputs at a share are the inputs at its leaves. -/
theorem ins_leaves (d : Dev nD) (c : S262144.Idx → F .f32) (us : S1024.Idx → BitVec 32) (nu : S4x1024.Idx → F .f32) (n : ℕ) (q : PosShare TreeShare) :
    (ins d c us nu q : sProp 𝕄) = bigSep Finset.univ fun i : Fin (2 ^ n) => ins d c us nu (leaf n q i) := by
  unfold ins
  rw [bigSep_sep', bigSep_sep', ← pointsTo_leaves, ← pointsTo_leaves, ← pointsTo_leaves]

/-! ## What the handshakes carry -/

/-- Core `c`'s share, -/
abbrev coreQ (c : Fin 2) : PosShare TreeShare := leaf 1 fullShare c
/-- and its tile `i`'s. -/
abbrev tileQ (c : Fin 2) (i : Fin 16) : PosShare TreeShare := leaf 4 (coreQ c) i

/-- What core `c` takes or brings back: its share of the inputs and its rows of the result, at `f`. -/
abbrev corePts (d : Dev nD) (c : Fin 2) (f : S1024x3072.Idx → F .f32) : sProp 𝕄 :=
  iprop(ins d (flat m d) (spans m d) (nut m d) (coreQ c) ∗ oLoc d ↦[coreSet c]{fullShare} f)
/-- The same of tile `i`. -/
abbrev tilePts (d : Dev nD) (c : Fin 2) (i : Fin 16) (f : S1024x3072.Idx → F .f32) : sProp 𝕄 :=
  iprop(ins d (flat m d) (spans m d) (nut m d) (tileQ c i) ∗ oLoc d ↦[tileSet c i]{fullShare} f)

/-- A core's resources are its tiles'. -/
theorem core_split (d : Dev nD) (c : Fin 2) (f : S1024x3072.Idx → F .f32) :
    (corePts m d c f : sProp 𝕄) = bigSep Finset.univ fun i : Fin 16 => tilePts m d c i f := by
  unfold corePts tilePts
  rw [ins_leaves d _ _ _ 4 (coreQ c), core_tiles]
  exact (bigSep_sep' (Finset.univ : Finset (Fin 16)) _ _).symm

/-- The call runs on two SparseCores. -/
theorem nCore_zero : (K (F := F)).nCore 0 = 2 := rfl

/-- The call takes each core's resources with the result at its launch contents and brings them back with the rows
    written; so each tile. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (rows m d)
  go := fun q d c i => match q with | 0 => tilePts m d (Fin.cast nCore_zero c) (Fin.cast nSub_zero i) (m (oLoc d))
  td := fun q d c i => match q with | 0 => tilePts m d (Fin.cast nCore_zero c) (Fin.cast nSub_zero i) (rows m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (rows m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (rows m d)))

/-- What the proof asks of the launch memory. -/
def PreOK : Prop := ∀ d : Dev nD, SpansIn (spans m d)

/-! ## The launch theorem's obligations -/

/-- The grid point of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs: the kernel's body at its grid point, over the arrays and its buffers. -/
theorem defs₀_vector (c : Fin τ.nSC) (s : Fin τ.nSub) :
    defs₀ (F := F) (.scVector c s) 0 ()
      = SparseCore.onTile hcore0 hsub0 (fun c s => cc0__sc_body (coordsV c s)
          cH (Memref.isWhole_whole _) uH (Memref.isWhole_whole _) nH (Memref.isWhole_whole _) oH (Memref.isWhole_whole _)
          cV (Memref.isWhole_whole _) uV (Memref.isWhole_whole _) nV (Memref.isWhole_whole _) oV (Memref.isWhole_whole _)
          cc0_scoped0 cc0_scoped1 cc0_scoped2 cc0_scoped3) ⟨⟩ c s := rfl

omit [FloatOps F] in
/-- A tile's final waits, in the launch theorem's form. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's run, from what the handshake hands it to what it brings back. -/
theorem tile_run (hpre : PreOK m) (d : Dev nD) (c : Fin (grid0.bound 0)) (i : Fin (grid0.bound 1)) (O : CellTallies nD τ sig (HIx 1)) (W : Waits sig (HIx 1))
    (hO : ∀ g, O g none = 0) :
    iprop(levAts (K (F := F)).L (K (F := F)).lev ∗ emp
        ∗ tilePts m d c i (m (oLoc d))
        ∗ scopedBufs (vt d (coordsV c i)) ∗ scopedSems0 (vt d (coordsV c i)) ∗ owes (vt d (coordsV c i)) O W)
      ⊢ runs d (coordsV c i)
          (cc0__sc_body (coordsV c i) cH (Memref.isWhole_whole _) uH (Memref.isWhole_whole _) nH (Memref.isWhole_whole _) oH (Memref.isWhole_whole _)
            cV (Memref.isWhole_whole _) uV (Memref.isWhole_whole _) nV (Memref.isWhole_whole _) oV (Memref.isWhole_whole _)
            cc0_scoped0 cc0_scoped1 cc0_scoped2 cc0_scoped3)
          fun _ => iprop(tilePts m d c i (rows m d)
            ∗ scopedBufs (vt d (coordsV c i)) ∗ scopedSems0 (vt d (coordsV c i))
            ∗ ∃ W', ⌜∀ p ∈ W', p ∈ W ∨ p.2 = none⌝ ∗ owes (vt d (coordsV c i)) O W') := by
  refine BI.Entails.trans ?_ (tile_body d (coordsV c i) (flat m d) (spans m d) (nut m d) (tileQ c i) facts (hpre d) O W hO)
  show iprop(_ ∗ emp ∗ tilePts m d c i (m (oLoc d)) ∗ _ ∗ _ ∗ _) ⊢ _
  iintro ⟨Hl, He, ⟨Hi, Ho⟩, Hr⟩
  isplitl [Hl]; · iexact Hl
  isplitl [He]; · iexact He
  isplitl [Hi Ho]
  · isplitl [Hi]; · iexact Hi
    iexists _; iexact Ho
  iexact Hr

set_option maxRecDepth 16384 in
/-- Every tile's obligation to the launch theorem. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_run m hpre d ⟨_, hci.1⟩ ⟨_, hci.2⟩ O W hO).trans (wp_mono frame _ _ fun _ => obl_post)

omit [FloatOps F] in
/-- Resources for the call's tiles are resources for sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A core's resources dealt to its tiles, and gathered. -/
theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (rows m d))
          -∗ corePts m d (Fin.cast nCore_zero c) (rows m d)))
  rw [bigSep_tasks (F := F) (fun i => tilePts m d (Fin.cast nCore_zero c) i (m (oLoc d))),
    bigSep_tasks (F := F) (fun i => tilePts m d (Fin.cast nCore_zero c) i (rows m d)), ← core_split, ← core_split]
  iintro H; imodintro
  isplitl [H]; · iexact H
  iintro H; iexact H

/-! ## The launch element: the handshakes' rounds -/

/-- The launch element: the handshakes' rounds at their start, and no counters. -/
def u₀ : UU := (initOf (K (F := F)).hsCells (K (F := F)).hsToks, 1)

omit [FloatOps F] in
/-- Nothing held once per member is nothing. -/
theorem bigSep_emp' {I : Type} (s : Finset I) : (bigSep s fun _ => iprop(emp)) = (iprop(emp) : sProp 𝕄) := bigSep_emp_const s

/-- The launch element gives the handshakes' rounds, and nothing more is needed of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- A TensorCore array as one of the device's. -/
abbrev rf (b : Ref sig .tc) : DevRef τ sig := Proc.devRef .tc b
/-- The host's reshape of the control points, -/
abbrev op0 : HloOp τ sig (Elt F) := StableHlo.reshape main_arg0 main_v0 (rfl : (.f32 : EltTy) = .f32) shapeCasts_S1024x64x4_S262144
/-- its transpose of the basis values, -/
abbrev op1 : HloOp τ sig (Elt F) := StableHlo.unary main_arg2 main_v1 (fun x : S1024x4.Idx → F .f32 => transpose S4x1024 [1, 0] x transposes_S1024x4_S4x1024_1_0)
/-- and its reshape of the rows of results. -/
abbrev op3 : HloOp τ sig (Elt F) := StableHlo.reshape main_v2 main_v3 (rfl : (.f32 : EltTy) = .f32) shapeCasts_S1024x3072_S1024x1024x3

/-- The TensorCore's arrays, all unscoped. -/
abbrev S7 : Finset (DevRef τ sig) := {rf main_arg0, rf main_arg1, rf main_arg2, rf main_v0, rf main_v1, rf main_v2, rf main_v3}

omit [FloatOps F] in
/-- The seven arrays held together are each of them held, -/
theorem held_S7 (d : Dev nD) (W : Valuation τ sig (Elt F)) :
    (held (T d) S7 W : sProp 𝕄) = iprop((a0Loc d ↦{fullShare} W (rf main_arg0)) ∗ (uLoc d ↦{fullShare} W (rf main_arg1)) ∗ (a2Loc d ↦{fullShare} W (rf main_arg2))
      ∗ (cLoc d ↦{fullShare} W (rf main_v0)) ∗ (nLoc d ↦{fullShare} W (rf main_v1)) ∗ (oLoc d ↦{fullShare} W (rf main_v2)) ∗ rLoc d ↦{fullShare} W (rf main_v3)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- and so are the arrays that the launch gives the TensorCore. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (uLoc d ↦{fullShare} W main_arg1) ∗ (a2Loc d ↦{fullShare} W main_arg2)
      ∗ (cLoc d ↦{fullShare} W main_v0) ∗ (nLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The contents at launch. -/
def V0 (d : Dev nD) : Valuation τ sig (Elt F) := fun b => m (d, b)
/-- The contents after the reshape of the control points, -/
def V1 (d : Dev nD) : Valuation τ sig (Elt F) := (op0 (F := F)).result (V0 m d)
/-- after the transpose of the basis values, -/
def V2 (d : Dev nD) : Valuation τ sig (Elt F) := (op1 (F := F)).result (V1 m d)
/-- after the call, -/
def V3 (d : Dev nD) : Valuation τ sig (Elt F) := Function.update (V2 m d) (rf main_v2) (rows m d)
/-- and at the end. -/
def V4 (d : Dev nD) : Valuation τ sig (Elt F) := (op3 (F := F)).result (V3 m d)

/-- At launch the seven arrays are held at their launch contents. -/
theorem unscoped_held (d : Dev nD) : (unscopedBufs d (fun b => m ((SparseCore.T d).loc b)) : sProp 𝕄) = held (T d) S7 (V0 m d) := by
  rw [unscopedBufs_eq, held_S7]; rfl

/-- Before the call the flat array holds the control points, -/
theorem V2_v0 (d : Dev nD) : V2 m d (rf main_v0) = flat m d := by
  unfold V2 V1
  rw [StableHlo.unary_result_ne _ _ _ _ _ _ (by decide), StableHlo.reshape_result]; rfl
/-- and the transposed one the basis values. -/
theorem V2_v1 (d : Dev nD) : V2 m d (rf main_v1) = nut m d := by
  unfold V2 V1
  rw [StableHlo.unary_result, StableHlo.reshape_result_ne _ _ _ _ _ _ _ (by decide)]; rfl
/-- What the two lines do not write stays as at launch. -/
theorem V2_ne (d : Dev nD) {b : Ref sig .tc} (h : b ≠ main_v0) (h' : b ≠ main_v1) : V2 m d (rf b) = m ((SparseCore.T d).loc b) := by
  unfold V2 V1
  rw [StableHlo.unary_result_ne _ _ _ _ _ _ h', StableHlo.reshape_result_ne _ _ _ _ _ _ _ h]; rfl
/-- After the call the rows hold the curves' points, -/
theorem V3_v2 (d : Dev nD) : V3 m d (rf main_v2) = rows m d := Function.update_self _ _ _
/-- and every other array what it held before. -/
theorem V3_ne (d : Dev nD) {b : Ref sig .tc} (h : rf b ≠ rf main_v2) : V3 m d (rf b) = V2 m d (rf b) := Function.update_of_ne h _ _
/-- At the end the result holds the reshaped rows. -/
theorem V4_v3 (d : Dev nD) : V4 m d (rf main_v3) = res m d := by
  unfold V4
  rw [StableHlo.reshape_result, V3_v2]; rfl
/-- The arguments stay as at launch to the end. -/
theorem V4_arg (d : Dev nD) {b : Ref sig .tc} (h : b ≠ main_v0) (h' : b ≠ main_v1) (h2 : rf b ≠ rf main_v2) (h3 : b ≠ main_v3) :
    V4 m d (rf b) = m ((SparseCore.T d).loc b) := by
  unfold V4
  rw [StableHlo.reshape_result_ne _ _ _ _ _ _ _ h3, V3_ne m d h2, V2_ne m d h h']

/-- What the call takes for the two cores, -/
theorem st0_eq (d : Dev nD) (f : S1024x3072.Idx → F .f32) : (bigSep Finset.univ fun c : Fin 2 => corePts m d c f)
    = iprop(ins d (flat m d) (spans m d) (nut m d) fullShare ∗ oLoc d ↦{fullShare} f) := by
  rw [all_cores, ins_leaves d _ _ _ 1 fullShare]
  exact bigSep_sep' (Finset.univ : Finset (Fin 2)) _ _

/-- The reshape of the control points touches the seven arrays only, -/
theorem hop0 : (op0 (F := F)).bufs ⊆ S7 := show ({rf main_arg0, rf main_v0} : Finset (DevRef τ sig)) ⊆ S7 by decide
/-- so does the transpose, -/
theorem hop1 : (op1 (F := F)).bufs ⊆ S7 := show ({rf main_arg2, rf main_v1} : Finset (DevRef τ sig)) ⊆ S7 by decide
/-- and so does the last reshape. -/
theorem hop3 : (op3 (F := F)).bufs ⊆ S7 := show ({rf main_v2, rf main_v3} : Finset (DevRef τ sig)) ⊆ S7 by decide

/-- What @main leaves the claim: the arguments at their launch contents, the result. -/
abbrev FIN (d : Dev nD) : sProp 𝕄 :=
  iprop((a0Loc d ↦{fullShare} m (a0Loc d)) ∗ (uLoc d ↦{fullShare} m (uLoc d)) ∗ (a2Loc d ↦{fullShare} m (a2Loc d)) ∗ rLoc d ↦{fullShare} res m d)

/-- @main on the device's TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S7) hop0 (V := V0 m d)) $$ [Hb Hheld]
  · isplitl [Hb] <;> iassumption
  iintro ⟨Hb, Hheld⟩
  rw [wp_ret]; imodintro
  iapply (wp_hlo_within 𝒱 (SparseCore.T d) none Set.univ (op := op1) (S := S7) hop1 (V := (op0 (F := F)).result (V0 m d))) $$ [Hb Hheld]
  · isplitl [Hb] <;> iassumption
  iintro ⟨Hb, Hheld⟩
  rw [wp_ret]; imodintro
  ihave Hh := (Entails.of_eq ((show held (T d) S7 ((op1 (F := F)).result ((op0 (F := F)).result (V0 m d))) = (held (T d) S7 (V2 m d) : sProp 𝕄) from rfl).trans (held_S7 (F := F) d (V2 m d)))) $$ Hheld
  rw [V2_v0, V2_v1, V2_ne m d (b := main_arg0) (by decide) (by decide), V2_ne m d (b := main_arg1) (by decide) (by decide),
    V2_ne m d (b := main_arg2) (by decide) (by decide), V2_ne m d (b := main_v2) (by decide) (by decide), V2_ne m d (b := main_v3) (by decide) (by decide)]
  icases Hh with ⟨Ha0, Hu, Ha2, Hc, Hn, Ho, Hr⟩
  iapply ((K (F := F)).wp_run (D (F := F)) 𝒱 (EH := EH) (P := P m) κ d 0) $$ [Hst Hc Hu Hn Ho Hb Ha0 Ha2 Hr Hts]
  isplitr; · iexact Hctx
  isplitl [Hst]; · iexact Hst
  isplitl [Hc Hu Hn Ho]
  · iapply (Entails.of_eq (show _ = (bigSep Finset.univ fun c : Fin ((K (F := F)).nCore 0) => (P m).st 0 d c) from (st0_eq m d (m (oLoc d))).symm))
    isplitr [Ho]
    · isplitl [Hc]; · iexact Hc
      isplitl [Hu]; · iexact Hu
      iexact Hn
    iexact Ho
  iintro ⟨Hst, Hdn⟩
  ihave Hdn' := (Entails.of_eq (show (bigSep Finset.univ fun c : Fin ((K (F := F)).nCore 0) => (P m).dn 0 d c) = _ from st0_eq m d (rows m d))) $$ Hdn
  icases Hdn' with ⟨⟨Hc, Hu, Hn⟩, Ho⟩
  iapply (wp_hlo_within 𝒱 (SparseCore.T d) none Set.univ (op := op3) (S := S7) hop3 (V := V3 m d)) $$ [Hb Ha0 Hu Ha2 Hc Hn Ho Hr]
  · isplitl [Hb]; · iexact Hb
    rw [held_S7, V3_v2, V3_ne m d (b := main_arg0) (by decide), V3_ne m d (b := main_arg1) (by decide), V3_ne m d (b := main_arg2) (by decide),
      V3_ne m d (b := main_v0) (by decide), V3_ne m d (b := main_v1) (by decide), V3_ne m d (b := main_v3) (by decide),
      V2_v0, V2_v1, V2_ne m d (b := main_arg0) (by decide) (by decide), V2_ne m d (b := main_arg1) (by decide) (by decide),
      V2_ne m d (b := main_arg2) (by decide) (by decide), V2_ne m d (b := main_v3) (by decide) (by decide)]
    isplitl [Ha0]; · iexact Ha0
    isplitl [Hu]; · iexact Hu
    isplitl [Ha2]; · iexact Ha2
    isplitl [Hc]; · iexact Hc
    isplitl [Hn]; · iexact Hn
    isplitl [Ho]; · iexact Ho
    iexact Hr
  iintro ⟨Hb, Hheld⟩
  ihave Hh := (Entails.of_eq ((show held (T d) S7 ((op3 (F := F)).result (V3 m d)) = (held (T d) S7 (V4 m d) : sProp 𝕄) from rfl).trans (held_S7 (F := F) d (V4 m d)))) $$ Hheld
  rw [V4_v3, V4_arg m d (b := main_arg0) (by decide) (by decide) (by decide) (by decide), V4_arg m d (b := main_arg1) (by decide) (by decide) (by decide) (by decide),
    V4_arg m d (b := main_arg2) (by decide) (by decide) (by decide) (by decide)]
  icases Hh with ⟨Ha0, Hu, Ha2, -, -, -, Hr⟩
  rw [wp_ret]; imodintro; imodintro
  isplitl [Hst]; · iexact Hst
  isplitr [Hb Hts]
  · isplitl [Ha0]; · iexact Ha0
    isplitl [Hu]; · iexact Hu
    isplitl [Ha2]; · iexact Ha2
    iexact Hr
  isplitl [Hb] <;> iassumption

/-- What the claims read of the final memory. -/
def fq (d : Dev nD) (s' : Phys nD τ sig (Elt F)) : Prop :=
  (s'.mem.mem (a0Loc d) = m (a0Loc d) ∧ s'.mem.mem (uLoc d) = m (uLoc d) ∧ s'.mem.mem (a2Loc d) = m (a2Loc d)) ∧ s'.mem.mem (rLoc d) = res m d

set_option maxRecDepth 16384 in
/-- The final memory holds what @main leaves: the arguments and the result. -/
theorem hfin (d : Dev nD) (s' : Phys nD τ sig (Elt F)) : iprop(FIN m d ∗ SI s') ⊢ (⌜fq m d s'⌝ : sProp 𝕄) := by
  iintro ⟨⟨Ha0, Hu, Ha2, Hr⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%h0, HSI, -⟩
  ihave H := (persistent_entails_right (SI_pointsTo_agree (st := s') (ℓ := uLoc d) (I := Finset.univ) (q := fullShare) (f := m (uLoc d)))) $$ [HSI Hu]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI Ha2]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨⟨funext fun i => h0 i (Finset.mem_univ i), funext fun i => h1 i (Finset.mem_univ i), funext fun i => h2 i (Finset.mem_univ i)⟩,
    funext fun i => h3 i (Finset.mem_univ i)⟩

/-! ## The program's run -/

/-- The arguments unchanged, the result as `res`, every semaphore at zero. -/
def QC : PUnit × MemSt nD τ sig (Elt F) → Prop := fun r =>
  (∀ c : Dev nD, (r.2.mem (a0Loc c) = m (a0Loc c) ∧ r.2.mem (uLoc c) = m (uLoc c) ∧ r.2.mem (a2Loc c) = m (a2Loc c)) ∧ r.2.mem (rLoc c) = res m c) ∧ r.2.sem = fun _ => 0

/-- **The program's run**: from spans in range, every execution ends with the arguments unchanged, the result at the
    curves' points, and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.IdealTile

end
-- ==== Proof.Reference.lean ====
/-
  The plain mathematics read at an index: the reference's start indices, its gather of the four control points of each
  span, its weighted sums, and what the two preconditions say of the spans and of the weights' sums.
-/
module

public import proofs.«01_k».proof.Proof.Curve
public import proofs.«01_k».proof.Proof.Gen.ReferenceIdeal.Run
public import proofs.«01_k».proof.Proof.Gen.Pre_spans_in_range
public import proofs.«01_k».proof.Proof.Gen.Pre_curves_defined
public import Idealize.ShloMosaic.Lib.Pointwise
public import Idealize.ShloMosaic.Lib.ReduceAll
public import Idealize.ShloMosaic.Lib.IdealHost

@[expose] public section

noncomputable section

namespace Cert.Proof.Reference

open Idealize.ShloMosaic Idealize.SL.Sem Cert.ReferenceIdeal Cert.ReferenceIdeal.Gen Cert.Proof

variable {F : FTy → Type} [FloatOps F]

/-! ## The gather -/

/-- The number of control point `j` of parameter `l`'s span, as a word: the span less three plus `j`. -/
def pointNo (us : IVec S1024 32) : IVec S1024x4 32 :=
  addi (broadcastInDim S1024x4 ![0, 1] bcast_S1024x1_S1024x4_0_1 (subi (broadcastInDim S1024x1 ![0] bcast_S1024_S1024x1_0 us)
      (broadcastInDim S1024x1 ![] bcast_S_S1024x1 (constantI S_ 32 3#32))))
    (broadcastInDim S1024x4 ![0, 1] bcast_S1x4_S1024x4_0_1 (broadcastInDim S1x4 ![1] bcast_S4_S1x4_1 (iotaInDim S4 32 0)))

/-- The start indices of the gather: those numbers, a negative one counted from the end. -/
def starts (us : IVec S1024 32) : IVec S1024x4x1 32 :=
  broadcastInDim S1024x4x1 ![0, 1] bcast_S1024x4_S1024x4x1_0_1
    (select (cmpi .slt (pointNo us) (broadcastInDim S1024x4 ![] bcast_S_S1024x4 (constantI S_ 32 0#32)))
      (addi (pointNo us) (broadcastInDim S1024x4 ![] bcast_S_S1024x4 (constantI S_ 32 64#32))) (pointNo us))

/-- The gathered control points: curve, parameter, point of the span, coordinate. -/
def points (cp : FVec F S1024x64x4 .f32) (us : IVec S1024 32) : FVec F S1024x1024x4x4 .f32 :=
  Host.gather gather_S1024x64x4_S1024x4x1_S1024x1024x4x4_03_1_n_n_1_2_102414 cp (starts us)

/-- A span in range less three plus a number below four, as a word, is that number. -/
theorem word_val {w : BitVec 32} (hw : 3 ≤ w.toNat ∧ w.toNat ≤ 63) {j : ℕ} (hj : j < 4) :
    (w - 3#32 + BitVec.ofNat 32 j).toNat = w.toNat - 3 + j := by
  rw [BitVec.toNat_add, BitVec.toNat_sub, BitVec.toNat_ofNat, BitVec.toNat_ofNat]
  omega

/-- The word of a point's number at a parameter and a place in its span. -/
theorem pointNo_apply (us : IVec S1024 32) (l : Fin 1024) (j : Fin 4) :
    pointNo us (ix2 l j) = us (ix1 l) - 3#32 + BitVec.ofNat 32 j.val := by
  pointwise [pointNo]; rfl

/-- With every span in range no number is negative, so the start index is the number itself. -/
theorem starts_apply {us : IVec S1024 32} (hu : SpansIn us) (l : Fin 1024) (j : Fin 4) (z : Fin 1) :
    (starts us (ix3 l j z)).toInt.toNat = (us (ix1 l)).toNat - 3 + j.val := by
  have hw := word_val (hu (ix1 l)) j.isLt
  have hb := hu (ix1 l)
  have hlt : IntOp.cmpi .slt (pointNo us (ix2 l j)) 0#32 = 0#1 := by
    rw [pointNo_apply]
    simp only [IntOp.cmpi, BitVec.slt_eq_decide, BitVec.toInt_eq_toNat_cond, hw, BitVec.toNat_ofNat, Nat.reducePow, Nat.reduceMod]
    rw [decide_eq_false (by omega)]; rfl
  have hs : starts us (ix3 l j z) = pointNo us (ix2 l j) := by
    pointwise [starts]
    rw [hlt]; rfl
  rw [hs, pointNo_apply, BitVec.toInt_eq_toNat_cond, hw, if_pos (by omega)]
  omega

/-- The gather read at an index: the control point its start index names, kept within the 64 there are. -/
theorem gather_apply (x : FVec F S1024x64x4 .f32) (idx : IVec S1024x4x1 32) (b l : Fin 1024) (j d : Fin 4) :
    Host.gather gather_S1024x64x4_S1024x4x1_S1024x1024x4x4_03_1_n_n_1_2_102414 x idx (ix4 b l j d)
      = x (ix3 b ⟨min (idx (ix3 l j 0)).toInt.toNat 63, by omega⟩ d) := by
  unfold Host.gather
  congr 1
  funext a
  refine Fin.ext ?_
  show GatherDims.start _ _ _ a + GatherDims.batchCoord _ _ a + GatherDims.offCoord _ _ a = _
  rw [GatherDims.batchCoord_eq_zero _ _ _ (List.not_mem_nil), Nat.add_zero]
  have hsi : ∀ c, gather_S1024x64x4_S1024x4x1_S1024x1024x4x4_03_1_n_n_1_2_102414.siIdx (ix4 b l j d) c = ix3 l j 0 := by
    intro c; funext k; refine Fin.ext ?_
    match k with
    | ⟨0, _⟩ => rfl
    | ⟨1, _⟩ => rfl
    | ⟨2, _⟩ => exact Nat.lt_one_iff.mp c.isLt
  fin_cases a
  · unfold GatherDims.start GatherDims.offCoord
    rw [dif_neg (by decide), dif_pos (by decide), Nat.zero_add]; rfl
  · unfold GatherDims.start GatherDims.offCoord
    rw [dif_pos (by decide), dif_neg (by decide), Nat.add_zero, hsi]; rfl
  · unfold GatherDims.start GatherDims.offCoord
    rw [dif_neg (by decide), dif_pos (by decide), Nat.zero_add]; rfl

/-- The four control points of parameter `l`'s span on curve `b`, by place in the span and coordinate, -/
def pts (cp : FVec F S1024x64x4 .f32) (us : IVec S1024 32) (b l : Fin 1024) (j e : ℕ) : F .f32 :=
  cp (ix3 b (Fin.ofNat 64 ((us (ix1 l)).toNat - 3 + j)) (Fin.ofNat 4 e))
/-- and the four basis values at parameter `l`. -/
def bas (nu : FVec F S1024x4 .f32) (l : Fin 1024) (j : ℕ) : F .f32 := nu (ix2 l (Fin.ofNat 4 j))

/-- The gathered control points are the span's. -/
theorem points_apply (cp : FVec F S1024x64x4 .f32) {us : IVec S1024 32} (hu : SpansIn us) (b l : Fin 1024) (j d : Fin 4) :
    points cp us (ix4 b l j d) = pts cp us b l j.val d.val := by
  unfold points pts
  have hb := hu (ix1 l)
  rw [gather_apply]
  have h1 : (⟨min (starts us (ix3 l j 0)).toInt.toNat 63, by omega⟩ : Fin 64) = Fin.ofNat 64 ((us (ix1 l)).toNat - 3 + j.val) := by
    refine Fin.ext ?_
    show min _ 63 = (_ : ℕ) % 64
    rw [starts_apply hu]
    omega
  have h2 : d = Fin.ofNat 4 d.val := Fin.ext (Nat.mod_eq_of_lt d.isLt).symm
  rw [h1, ← h2]

/-! ## The weighted sums -/

/-- The homogeneous control points: three coordinates times the weight, and the weight. -/
def homog (cp : FVec F S1024x64x4 .f32) (us : IVec S1024 32) : FVec F S1024x1024x4x4 .f32 :=
  concatenate S1024x1024x4x4 3
    [⟨S1024x1024x4x3, mulf (extractStridedSlice S1024x1024x4x3 ![0, 0, 0, 0] (points cp us) slices_S1024x1024x4x4_S1024x1024x4x3_0_0_0_0)
      (broadcastInDim S1024x1024x4x3 ![0, 1, 2, 3] bcast_S1024x1024x4x1_S1024x1024x4x3_0_1_2_3
        (extractStridedSlice S1024x1024x4x1 ![0, 0, 0, 3] (points cp us) slices_S1024x1024x4x4_S1024x1024x4x1_0_0_0_3))⟩,
     ⟨S1024x1024x4x1, extractStridedSlice S1024x1024x4x1 ![0, 0, 0, 3] (points cp us) slices_S1024x1024x4x4_S1024x1024x4x1_0_0_0_3⟩]
    concatenates_S1024x1024x4x3_S1024x1024x4x1_S1024x1024x4x4_d3

/-- Points summed against the basis values: curve, parameter, coordinate. -/
def blend (h : FVec F S1024x1024x4x4 .f32) (nu : FVec F S1024x4 .f32) : FVec F S1024x1024x4 .f32 :=
  transpose S1024x1024x4 [1, 0, 2]
    (Host.dotGeneral dot_S1024x1024x4x4_S1024x4_S1024x1024x4_2_1_03_n_1_0 none h nu) transposes_S1024x1024x4_S1024x1024x4_1_0_2

/-- The reference's result: the first three sums over the last. -/
def result (cp : FVec F S1024x64x4 .f32) (us : IVec S1024 32) (nu : FVec F S1024x4 .f32) : FVec F S1024x1024x3 .f32 :=
  Host.divf (extractStridedSlice S1024x1024x3 ![0, 0, 0] (blend (homog cp us) nu) slices_S1024x1024x4_S1024x1024x3_0_0_0)
    (broadcastInDim S1024x1024x3 ![0, 1, 2] bcast_S1024x1024x1_S1024x1024x3_0_1_2
      (extractStridedSlice S1024x1024x1 ![0, 0, 3] (blend (homog cp us) nu) slices_S1024x1024x4_S1024x1024x1_0_0_3))

/-- What the reference's run leaves is that result of the launch contents. -/
theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) := rfl

/-- A sum over the four points of a span, read at a curve, a parameter and a coordinate. -/
theorem blend_apply (h : FVec Ideal S1024x1024x4x4 .f32) (nu : FVec Ideal S1024x4 .f32) (b l : Fin 1024) (d : Fin 4) :
    blend h nu (ix3 b l d) = ∑ j : Fin 4, h (ix4 b l j d) * nu (ix2 l j) := by
  pointwise [blend]

/-- A homogeneous coordinate is the coordinate times the weight, -/
theorem homog_coord (cp : FVec Ideal S1024x64x4 .f32) (us : IVec S1024 32) (b l : Fin 1024) (j : Fin 4) (e : Fin 3) :
    homog cp us (ix4 b l j (e.castLE (by decide))) = points cp us (ix4 b l j (e.castLE (by decide))) * points cp us (ix4 b l j 3) := by
  pointwise [homog]
  exact dif_pos e.isLt

/-- and the last is the weight. -/
theorem homog_weight (cp : FVec Ideal S1024x64x4 .f32) (us : IVec S1024 32) (b l : Fin 1024) (j : Fin 4) :
    homog cp us (ix4 b l j 3) = points cp us (ix4 b l j 3) := by
  pointwise [homog]

/-! ## The preconditions -/

/-- A word that both signed comparisons accept is one of 3 to 63. -/
theorem span_of_word {w : BitVec 32} (h : IntOp.andi (IntOp.cmpi .sge w 3#32) (IntOp.cmpi .sle w 63#32) = 1#1) :
    3 ≤ w.toNat ∧ w.toNat ≤ 63 := by
  obtain ⟨h1, h2⟩ := IntOp.andi_eq_one.1 h
  have one : ∀ {p : Bool}, BitVec.ofBool p = 1#1 → p = true := by decide
  replace h1 := one h1
  replace h2 := one h2
  simp only [BitVec.sle_eq_decide, decide_eq_true_eq, BitVec.toInt_eq_toNat_cond, BitVec.toNat_ofNat, Nat.reducePow,
    Nat.reduceMod] at h1 h2
  have := w.isLt
  split at h1 <;> split at h2 <;> omega

/-- The precondition on the spans says that each is one of 3 to 63. -/
theorem spans_of_pre {cp : FVec F S1024x64x4 .f32} {us : IVec S1024 32} {nu : FVec F S1024x4 .f32}
    (h : Cert.Pre_spans_in_range.fn (F := F) cp us nu = fun _ => 1#1) : SpansIn us := fun x => by
  haveI : Subsingleton S_.Idx := inferInstanceAs (Subsingleton (⟨0, ![]⟩ : Shape).Idx)
  exact span_of_word (Host.reduce_andi_all _ _ _ _ _ (congrFun h ix0) x)

/-- The weights' sums as the precondition states them. -/
def weights (cp : FVec F S1024x64x4 .f32) (us : IVec S1024 32) (nu : FVec F S1024x4 .f32) : FVec F S1024x1024x1 .f32 :=
  extractStridedSlice S1024x1024x1 ![0, 0, 3] (blend (points cp us) nu) slices_S1024x1024x4_S1024x1024x1_0_0_3

/-- The precondition on the curves holds the one on the spans, -/
theorem spans_of_defined {cp : FVec F S1024x64x4 .f32} {us : IVec S1024 32} {nu : FVec F S1024x4 .f32}
    (h : Cert.Pre_curves_defined.fn (F := F) cp us nu = fun _ => 1#1) : SpansIn us := fun x => by
  haveI : Subsingleton S_.Idx := inferInstanceAs (Subsingleton (⟨0, ![]⟩ : Shape).Idx)
  exact span_of_word (Host.reduce_andi_all _ _ _ _ _ (IntOp.andi_eq_one.1 (congrFun h ix0)).1 x)

/-- and says that no sum of weights is zero. -/
theorem weights_ne {cp : FVec Ideal S1024x64x4 .f32} {us : IVec S1024 32} {nu : FVec Ideal S1024x4 .f32}
    (h : Cert.Pre_curves_defined.fn (F := Ideal) cp us nu = fun _ => 1#1) (b l : Fin 1024) :
    weights cp us nu (ix3 b l 0) ≠ (0 : EReal) := by
  haveI : Subsingleton S_.Idx := inferInstanceAs (Subsingleton (⟨0, ![]⟩ : Shape).Idx)
  have h2 : FloatOps.cmpf .une (weights cp us nu (ix3 b l 0)) (Scalar.ofBits (F := Ideal) .f32 0x00000000#32) = 1#1 :=
    Host.reduce_andi_all _ _ _ _ _ (IntOp.andi_eq_one.1 (congrFun h ix0)).2 (ix3 b l 0)
  intro h0
  rw [h0] at h2
  replace h2 : Ideal.cmp .une (0 : EReal) (Ideal.ofBits .f32 0x00000000#32) = 1#1 := h2
  rw [Ideal.ofBits_zero_f32] at h2
  simp [Ideal.cmp] at h2

/-! ## The reference's result is the curve point -/

/-- At the ideal values the weights' sum is the sum over the four points. -/
theorem den_eq (P : ℕ → ℕ → Ideal .f32) (N : ℕ → Ideal .f32) :
    (den P N : EReal) = ∑ j : Fin 4, (P j.val 3 : EReal) * N j.val := by
  show Ideal.ofBits .f32 0x00000000#32 + (P 0 3 : EReal) * N 0 + P 1 3 * N 1 + P 2 3 * N 2 + P 3 3 * N 3 = _
  rw [Ideal.ofBits_zero_f32, zero_add, Fin.sum_univ_four]; rfl

/-- The three factors of a term, in the kernel's order and in the reference's. -/
theorem mul_turn (a b c : EReal) : a * b * c = c * a * b := by rw [mul_comm, mul_assoc]

/-- At the ideal values a coordinate's sum is the sum over the four points of coordinate times weight times basis. -/
theorem num_eq (P : ℕ → ℕ → Ideal .f32) (N : ℕ → Ideal .f32) (e : ℕ) :
    (num P N e : EReal) = ∑ j : Fin 4, (P j.val e : EReal) * P j.val 3 * N j.val := by
  show Ideal.ofBits .f32 0x00000000#32 + (P 0 3 : EReal) * N 0 * P 0 e + P 1 3 * N 1 * P 1 e + P 2 3 * N 2 * P 2 e
    + P 3 3 * N 3 * P 3 e = _
  rw [Ideal.ofBits_zero_f32, zero_add, Fin.sum_univ_four, mul_turn, mul_turn (P 1 3), mul_turn (P 2 3), mul_turn (P 3 3)]; rfl

/-- At the ideal values, over a divisor that is not zero, times the reciprocal is the quotient. -/
theorem pt_eq (P : ℕ → ℕ → Ideal .f32) (N : ℕ → Ideal .f32) (e : ℕ) (h : (den P N : EReal) ≠ 0) :
    pt P N e = Ideal.div (num P N e) (den P N) := by
  show (num P N e : EReal) * Ideal.div (Ideal.ofBits .f32 0x3F800000#32) (den P N) = _
  rw [Ideal.ofBits_one_f32, Ideal.mul_one_div h]

/-- The last of the summed coordinates is the weights' sum, -/
theorem blend_weight {cp : FVec Ideal S1024x64x4 .f32} {us : IVec S1024 32} (hu : SpansIn us) (nu : FVec Ideal S1024x4 .f32)
    (b l : Fin 1024) : blend (homog cp us) nu (ix3 b l 3) = den (pts cp us b l) (bas nu l) := by
  rw [blend_apply, den_eq]
  refine Finset.sum_congr rfl fun j _ => ?_
  rw [homog_weight, points_apply cp hu]
  unfold bas
  rw [show Fin.ofNat 4 j.val = j from Fin.ext (Nat.mod_eq_of_lt j.isLt)]; rfl

/-- each of the others the coordinate's, -/
theorem blend_coord {cp : FVec Ideal S1024x64x4 .f32} {us : IVec S1024 32} (hu : SpansIn us) (nu : FVec Ideal S1024x4 .f32)
    (b l : Fin 1024) (e : Fin 3) :
    blend (homog cp us) nu (ix3 b l (e.castLE (by decide))) = num (pts cp us b l) (bas nu l) e.val := by
  rw [blend_apply, num_eq]
  refine Finset.sum_congr rfl fun j _ => ?_
  rw [homog_coord, points_apply cp hu, points_apply cp hu]
  unfold bas
  rw [show Fin.ofNat 4 j.val = j from Fin.ext (Nat.mod_eq_of_lt j.isLt)]; rfl

/-- and the precondition's own sum the same weights' sum. -/
theorem weights_eq {cp : FVec Ideal S1024x64x4 .f32} {us : IVec S1024 32} (hu : SpansIn us) (nu : FVec Ideal S1024x4 .f32)
    (b l : Fin 1024) : weights cp us nu (ix3 b l 0) = den (pts cp us b l) (bas nu l) := by
  have h : weights cp us nu (ix3 b l 0) = blend (points cp us) nu (ix3 b l 3) := by pointwise [weights]
  rw [h, blend_apply, den_eq]
  refine Finset.sum_congr rfl fun j _ => ?_
  rw [points_apply cp hu]
  unfold bas
  rw [show Fin.ofNat 4 j.val = j from Fin.ext (Nat.mod_eq_of_lt j.isLt)]; rfl

/-- Where the curves are defined the reference's result at a curve, a parameter and a coordinate is the curve point. -/
theorem result_apply {cp : FVec Ideal S1024x64x4 .f32} {us : IVec S1024 32} {nu : FVec Ideal S1024x4 .f32}
    (h : Cert.Pre_curves_defined.fn (F := Ideal) cp us nu = fun _ => 1#1) (b l : Fin 1024) (e : Fin 3) :
    result cp us nu (ix3 b l e) = pt (pts cp us b l) (bas nu l) e.val := by
  have hu := spans_of_defined h
  have hne : (den (pts cp us b l) (bas nu l) : EReal) ≠ 0 := weights_eq hu nu b l ▸ weights_ne h b l
  rw [pt_eq _ _ _ hne, ← blend_coord hu, ← blend_weight hu]
  pointwise [result]
  rfl

end Cert.Proof.Reference
-- ==== Proof.Value.lean ====
/-
  The kernel's result and the reference's are one array: the kernel's rows, read at a curve, a parameter and a coordinate,
  hold the curve point of the same control points and basis values as the reference's quotient.
-/
module

public import proofs.«01_k».proof.Proof.IdealLaunch
public import proofs.«01_k».proof.Proof.Reference

@[expose] public section

noncomputable section

namespace Cert.Proof.Value

open Idealize.ShloMosaic Idealize.SL.Sem Cert.Proof

variable {F : FTy → Type} [FloatOps F]

section

open Cert.KernelIdeal Cert.KernelIdeal.Gen Cert.Proof.IdealTile Cert.Proof.Reference

variable (m : (ℓ : Loc nD τ sig) → Buf (Elt F) ℓ) (d : Dev nD)

/-- The flat control points at a curve's, a point's and a coordinate's place are the array's there. -/
theorem flat_apply (b : Fin 1024) (k : Fin 64) (e : Fin 4) :
    flat m d (at1 262144 (256 * b.val + 4 * k.val + e.val)) = m (a0Loc d) (ix3 b k e) := by
  refine shapeCast_apply _ _ _ (ix3 b k e) ?_
  have := b.isLt; have := k.isLt; have := e.isLt
  have h1 : ((at1 262144 (256 * b.val + 4 * k.val + e.val)) 0).val = 256 * b.val + 4 * k.val + e.val := at1_val (by omega) 0
  rw [Shape.rowMajor_val_one, Shape.rowMajor_val_three, h1]
  show (b.val * 64 + k.val) * 4 + e.val = _
  omega

/-- The transposed basis values at a place and a parameter are the array's at the parameter and the place. -/
theorem nut_apply (l : Fin 1024) (j : Fin 4) : nut m d (at2 4 1024 j.val l.val) = m (a2Loc d) (ix2 l j) := by
  have h : at2 4 1024 j.val l.val = ix2 j l := by
    refine (eq_at2 (ix2 j l) rfl rfl).symm
  rw [h]
  pointwise [nut]

/-- The kernel's result at a curve, a parameter and a coordinate is the curve point of the launch contents. -/
theorem res_apply (hu : SpansIn (spans m d)) (b l : Fin 1024) (e : Fin 3) :
    res m d (ix3 b l e) = pt (pts (m (a0Loc d)) (m (uLoc d)) b l) (bas (m (a2Loc d)) l) e.val := by
  have hb := b.isLt; have hl := l.isLt; have he := e.isLt
  have h1 : res m d (ix3 b l e) = rows m d (ix2 b ⟨3 * l.val + e.val, by omega⟩) := by
    refine shapeCast_apply _ _ _ _ ?_
    rw [Shape.rowMajor_val_two, Shape.rowMajor_val_three]
    show b.val * 3072 + (3 * l.val + e.val) = (b.val * 1024 + l.val) * 3 + e.val
    omega
  have h2 : rows m d (ix2 b ⟨3 * l.val + e.val, by omega⟩)
      = curve (flat m d) (spans m d) (nut m d) b.val ((3 * l.val + e.val) / 3) ((3 * l.val + e.val) % 3) := rfl
  rw [h1, h2, show (3 * l.val + e.val) / 3 = l.val by omega, show (3 * l.val + e.val) % 3 = e.val by omega]
  have hx : at1 1024 l.val = ix1 l := (eq_at1 (ix1 l) rfl).symm
  have hs := hu (ix1 l)
  refine pt_congr he (fun j hj e he => ?_) (fun j hj => ?_)
  · have := flat_apply m d b (Fin.ofNat 64 ((spans m d (ix1 l)).toNat - 3 + j)) (Fin.ofNat 4 e)
    unfold ctl spanOf
    rw [hx]
    refine Eq.trans (congrArg (flat m d) (congrArg (at1 262144) ?_)) this
    show _ = 256 * b.val + 4 * (((spans m d (ix1 l)).toNat - 3 + j) % 64) + e % 4
    omega
  · have := nut_apply m d l (Fin.ofNat 4 j)
    refine Eq.trans ?_ this
    unfold basis
    rw [show (Fin.ofNat 4 j).val = j from Nat.mod_eq_of_lt hj]

end

/-- Where the curves are defined, the kernel's result is the reference's of the same contents. -/
theorem res_eq_result (m : (ℓ : Loc Cert.KernelIdeal.nD Cert.KernelIdeal.τ Cert.KernelIdeal.sig) → Buf (Elt Ideal) ℓ)
    (d : Dev Cert.KernelIdeal.nD)
    (h : Cert.Pre_curves_defined.fn (F := Ideal) (m (IdealTile.a0Loc d)) (m (IdealTile.uLoc d)) (m (IdealTile.a2Loc d)) = fun _ => 1#1) :
    IdealTile.res m d = Reference.result (m (IdealTile.a0Loc d)) (m (IdealTile.uLoc d)) (m (IdealTile.a2Loc d)) := by
  funext x
  rw [eq_ix3 x]
  exact (res_apply m d (Reference.spans_of_defined h) _ _ _).trans (Reference.result_apply h _ _ _).symm

end Cert.Proof.Value
-- ==== Proof.lean ====
/-
  The proof of `Cert.Claim`: the kernel, at the bit patterns and at the ideal values, ends with its arguments unchanged and
  its counters at zero, so does the reference, and where the curves are defined both leave one array. The launches are
  Proof/KernelLaunch.lean and Proof/IdealLaunch.lean, the reference's run Proof/Gen/ReferenceIdeal/Run.lean, the equation
  Proof/Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_spans_in_range
public import proofs.«01_k».proof.Proof.Gen.Pre_curves_defined
public import proofs.«01_k».proof.Proof.Gen.ReferenceIdeal.Run
public import Idealize.ShloMosaic.Adequacy
public import Idealize.ShloMosaic.Init
public import proofs.«01_k».proof.Proof.KernelLaunch
public import proofs.«01_k».proof.Proof.Value

@[expose] public section

noncomputable section

namespace Cert.Proof

open Idealize.ShloMosaic Idealize.SL.Sem

/-- The kernel as compiled, its spans in range: every run ends, the arguments unchanged, every counter at zero. -/
theorem frame_k : Cert.quiescent_Kernel := fun m g hpre =>
  (θ_run _ _ _).mono (fun _ h => ⟨fun c => (h.1 c).1, h.2⟩)
    (KernelTile.run_main m g fun d => Reference.spans_of_pre (hpre d))

/-- The same of the idealized kernel, -/
theorem frame_i : Cert.quiescent_KernelIdeal := fun m g hpre =>
  (θ_run _ _ _).mono (fun _ h => ⟨fun c => (h.1 c).1, h.2⟩)
    (IdealTile.run_main m g fun d => Reference.spans_of_pre (hpre d))

/-- and under the precondition on the curves, which holds the one on the spans. -/
theorem frame_i_defined : Cert.quiescent_KernelIdeal_pre_curves_defined := fun m g hpre =>
  (θ_run _ _ _).mono (fun _ h => ⟨fun c => (h.1 c).1, h.2⟩)
    (IdealTile.run_main m g fun d => Reference.spans_of_defined (hpre d))

/-- The reference's run ends, its arguments unchanged, every counter at zero. -/
theorem frame_r : Cert.quiescent_ReferenceIdeal := fun m g _ =>
  (θ_run _ _ _).mono (fun r h => ⟨fun c => (h c).2, sem_eq_zero_of_no_sems (by decide) r.2⟩)
    (Cert.ReferenceIdeal.Value.run m g)

/-- Where the curves are defined, the idealized kernel and the reference leave one array. -/
theorem value : Cert.algebraic_KernelIdeal_ReferenceIdeal_pre_curves_defined := fun m g m' g' hpre hm =>
  ⟨fun c => IdealTile.res m c,
    (θ_run _ _ _).mono (fun _ h c => ⟨(h.1 c).2, (h.1 c).1⟩)
      (IdealTile.run_main m g fun d => Reference.spans_of_defined (hpre d)),
    (θ_run _ _ _).mono (fun _ h c => ⟨(h c).1.trans (by
        obtain ⟨h0, h1, h2⟩ := hm c
        refine (Reference.res_eq m' c).trans ?_
        rw [h0, h1, h2]
        exact (Value.res_eq_result m c (hpre c)).symm), (h c).2⟩)
      (Cert.ReferenceIdeal.Value.run m' g')⟩

/-- Every claim of the certificate. -/
theorem claim : Cert.Claim :=
  ⟨Cert.Kernel.Gen.facts, Cert.KernelIdeal.Gen.facts, Cert.ReferenceIdeal.Gen.facts, Cert.Pre_spans_in_range.Gen.facts,
    Cert.Pre_curves_defined.Gen.facts, frame_k, frame_i, frame_i_defined, frame_r, fun m g _ => frame_r m g trivial, trivial, value⟩

end Cert.Proof

end
